-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4x2048x128 : Shape := ⟨4, ![2, 4, 2048, 128]⟩
abbrev S2048x2048 : Shape := ⟨2, ![2048, 2048]⟩
abbrev S2 : Shape := ⟨1, ![2]⟩
abbrev S512x256 : Shape := ⟨2, ![512, 256]⟩
abbrev S256 : Shape := ⟨1, ![256]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x256 : Shape := ⟨2, ![1, 256]⟩
abbrev S1x128 : Shape := ⟨2, ![1, 128]⟩
abbrev S1x1 : Shape := ⟨2, ![1, 1]⟩
abbrev S256x256 : Shape := ⟨2, ![256, 256]⟩
abbrev S1x256x256 : Shape := ⟨3, ![1, 256, 256]⟩
abbrev S1x1x1 : Shape := ⟨3, ![1, 1, 1]⟩
abbrev S256x1 : Shape := ⟨2, ![256, 1]⟩
abbrev S1x256x1 : Shape := ⟨3, ![1, 256, 1]⟩
abbrev S128x128 : Shape := ⟨2, ![128, 128]⟩
abbrev S1x128x128 : Shape := ⟨3, ![1, 128, 128]⟩
abbrev S1x128x1 : Shape := ⟨3, ![1, 128, 1]⟩
abbrev S1x1x128 : Shape := ⟨3, ![1, 1, 128]⟩
abbrev S128x256 : Shape := ⟨2, ![128, 256]⟩
abbrev S256x128 : Shape := ⟨2, ![256, 128]⟩
abbrev S1x1x2048x128 : Shape := ⟨4, ![1, 1, 2048, 128]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 15
  | .vmem => 9
  | .smem => 0
  | _ => 0

abbrev bufTy : (tb : Table) → Fin (tcTables nBuf tb) → BufTy
  | .hbm, ⟨0, _⟩ => ⟨S2x4x2048x128, .f32⟩
  | .hbm, ⟨1, _⟩ => ⟨S2x4x2048x128, .f32⟩
  | .hbm, ⟨2, _⟩ => ⟨S2048x2048, .f32⟩
  | .hbm, ⟨3, _⟩ => ⟨S2, .f32⟩
  | .hbm, ⟨4, _⟩ => ⟨S512x256, .f32⟩
  | .hbm, ⟨5, _⟩ => ⟨S256, .f32⟩
  | .hbm, ⟨6, _⟩ => ⟨S512x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x256, .f32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S1x1, .f32⟩
  | .local _ .vmem, ⟨0, _⟩ => ⟨S2x4x2048x128, .f32⟩
  | .local _ .vmem, ⟨1, _⟩ => ⟨S2048x2048, .f32⟩
  | .local _ .vmem, ⟨2, _⟩ => ⟨S512x256, .f32⟩
  | .local _ .vmem, ⟨3, _⟩ => ⟨S1x256, .f32⟩
  | .local _ .vmem, ⟨4, _⟩ => ⟨S512x128, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1x1, .f32⟩
  | _, _ => ⟨S2x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x4x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x4x2048x128 : Shape := ⟨4, ![2, 4, 2048, 128]⟩
abbrev S2048x2048 : Shape := ⟨2, ![2048, 2048]⟩
abbrev S2 : Shape := ⟨1, ![2]⟩
abbrev S512x256 : Shape := ⟨2, ![512, 256]⟩
abbrev S256 : Shape := ⟨1, ![256]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩
abbrev S256x512 : Shape := ⟨2, ![256, 512]⟩
abbrev S512 : Shape := ⟨1, ![512]⟩
abbrev S128x512 : Shape := ⟨2, ![128, 512]⟩
abbrev S2x2048x128 : Shape := ⟨3, ![2, 2048, 128]⟩
abbrev S2x1x2048x128 : Shape := ⟨4, ![2, 1, 2048, 128]⟩
abbrev S2x2048x256 : Shape := ⟨3, ![2, 2048, 256]⟩
abbrev S2x256x2048 : Shape := ⟨3, ![2, 256, 2048]⟩
abbrev S2x2048x512 : Shape := ⟨3, ![2, 2048, 512]⟩
abbrev S1x1x256 : Shape := ⟨3, ![1, 1, 256]⟩
abbrev S1x1x128 : Shape := ⟨3, ![1, 1, 128]⟩
abbrev S2x2048x1 : Shape := ⟨3, ![2, 2048, 1]⟩
abbrev S1x1x1 : Shape := ⟨3, ![1, 1, 1]⟩
abbrev S2x2048 : Shape := ⟨2, ![2, 2048]⟩
abbrev S1x1 : Shape := ⟨2, ![1, 1]⟩

abbrev nBuf : Space → Nat
  | .hbm => 242
  | .vmem => 0
  | .smem => 0
  | _ => 0

abbrev hbmTy0_0 (i : Nat) : BufTy := match i % 128 with
  | 0 => ⟨S2x4x2048x128, .f32⟩
  | 1 => ⟨S2x4x2048x128, .f32⟩
  | 2 => ⟨S2048x2048, .f32⟩
  | 3 => ⟨S2, .f32⟩
  | 4 => ⟨S512x256, .f32⟩
  | 5 => ⟨S256, .f32⟩
  | 6 => ⟨S512x128, .f32⟩
  | 7 => ⟨S128, .f32⟩
  | 8 => ⟨S128x1, .f32⟩
  | 9 => ⟨S1, .f32⟩
  | 10 => ⟨S_, .f32⟩
  | 11 => ⟨S256, .f32⟩
  | 12 => ⟨S_, .f32⟩
  | 13 => ⟨S128, .f32⟩
  | 14 => ⟨S_, .i32⟩
  | 15 => ⟨S_, .i32⟩
  | 16 => ⟨S512x256, .f32⟩
  | 17 => ⟨S512x128, .f32⟩
  | 18 => ⟨S_, .i32⟩
  | 19 => ⟨S_, .i32⟩
  | 20 => ⟨S256, .f32⟩
  | 21 => ⟨S128, .f32⟩
  | 22 => ⟨S_, .i32⟩
  | 23 => ⟨S_, .i1⟩
  | 24 => ⟨S_, .i32⟩
  | 25 => ⟨S_, .i32⟩
  | 26 => ⟨S256x512, .f32⟩
  | 27 => ⟨S512, .f32⟩
  | 28 => ⟨S256, .f32⟩
  | 29 => ⟨S256, .f32⟩
  | 30 => ⟨S_, .f32⟩
  | 31 => ⟨S_, .f32⟩
  | 32 => ⟨S_, .f32⟩
  | 33 => ⟨S_, .f32⟩
  | 34 => ⟨S_, .f32⟩
  | 35 => ⟨S256, .f32⟩
  | 36 => ⟨S256, .f32⟩
  | 37 => ⟨S128x512, .f32⟩
  | 38 => ⟨S512, .f32⟩
  | 39 => ⟨S128, .f32⟩
  | 40 => ⟨S128, .f32⟩
  | 41 => ⟨S_, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S_, .i32⟩
  | 49 => ⟨S_, .i32⟩
  | 50 => ⟨S512, .f32⟩
  | 51 => ⟨S512, .f32⟩
  | 52 => ⟨S_, .f32⟩
  | 53 => ⟨S_, .f32⟩
  | 54 => ⟨S_, .f32⟩
  | 55 => ⟨S256, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S512x256, .f32⟩
  | 63 => ⟨S512x256, .f32⟩
  | 64 => ⟨S512, .f32⟩
  | 65 => ⟨S512, .f32⟩
  | 66 => ⟨S_, .f32⟩
  | 67 => ⟨S_, .f32⟩
  | 68 => ⟨S_, .f32⟩
  | 69 => ⟨S128, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S512x128, .f32⟩
  | 77 => ⟨S512x128, .f32⟩
  | 78 => ⟨S_, .f32⟩
  | 79 => ⟨S2x2048x128, .f32⟩
  | 80 => ⟨S2x1x2048x128, .f32⟩
  | 81 => ⟨S2x2048x128, .f32⟩
  | 82 => ⟨S2x2048x256, .f32⟩
  | 83 => ⟨S2x256x2048, .f32⟩
  | 84 => ⟨S2x2048x256, .f32⟩
  | 85 => ⟨S2x2048x512, .f32⟩
  | 86 => ⟨S2x2048x256, .f32⟩
  | 87 => ⟨S1x1x256, .f32⟩
  | 88 => ⟨S2x2048x256, .f32⟩
  | 89 => ⟨S2x2048x256, .f32⟩
  | 90 => ⟨S2x2048x256, .f32⟩
  | 91 => ⟨S2x2048x256, .f32⟩
  | 92 => ⟨S_, .f32⟩
  | 93 => ⟨S2x2048x256, .f32⟩
  | 94 => ⟨S2x2048x256, .f32⟩
  | 95 => ⟨S_, .f32⟩
  | 96 => ⟨S2x2048x256, .f32⟩
  | 97 => ⟨S2x2048x256, .f32⟩
  | 98 => ⟨S2x2048x128, .f32⟩
  | 99 => ⟨S2x2048x128, .f32⟩
  | 100 => ⟨S2x2048x128, .f32⟩
  | 101 => ⟨S2x2048x256, .f32⟩
  | 102 => ⟨S2x256x2048, .f32⟩
  | 103 => ⟨S2x2048x256, .f32⟩
  | 104 => ⟨S2x2048x512, .f32⟩
  | 105 => ⟨S2x2048x128, .f32⟩
  | 106 => ⟨S1x1x128, .f32⟩
  | 107 => ⟨S2x2048x128, .f32⟩
  | 108 => ⟨S2x2048x128, .f32⟩
  | 109 => ⟨S2x2048x128, .f32⟩
  | 110 => ⟨S2x2048x128, .f32⟩
  | 111 => ⟨S_, .f32⟩
  | 112 => ⟨S2x2048x128, .f32⟩
  | 113 => ⟨S2x2048x128, .f32⟩
  | 114 => ⟨S2x2048x128, .f32⟩
  | 115 => ⟨S2x2048x128, .f32⟩
  | 116 => ⟨S2x1x2048x128, .f32⟩
  | 117 => ⟨S2x2048x128, .f32⟩
  | 118 => ⟨S2x2048x256, .f32⟩
  | 119 => ⟨S2x256x2048, .f32⟩
  | 120 => ⟨S2x2048x256, .f32⟩
  | 121 => ⟨S2x2048x512, .f32⟩
  | 122 => ⟨S2x2048x256, .f32⟩
  | 123 => ⟨S1x1x256, .f32⟩
  | 124 => ⟨S2x2048x256, .f32⟩
  | 125 => ⟨S2x2048x256, .f32⟩
  | 126 => ⟨S2x2048x256, .f32⟩
  | 127 => ⟨S2x2048x256, .f32⟩
  | _ => ⟨S2x4x2048x128, .f32⟩

abbrev hbmTy0_1 (i : Nat) : BufTy := match i % 128 with
  | 0 => ⟨S_, .f32⟩
  | 1 => ⟨S2x2048x256, .f32⟩
  | 2 => ⟨S2x2048x256, .f32⟩
  | 3 => ⟨S_, .f32⟩
  | 4 => ⟨S2x2048x256, .f32⟩
  | 5 => ⟨S2x2048x256, .f32⟩
  | 6 => ⟨S2x2048x128, .f32⟩
  | 7 => ⟨S2x2048x128, .f32⟩
  | 8 => ⟨S2x2048x128, .f32⟩
  | 9 => ⟨S2x2048x256, .f32⟩
  | 10 => ⟨S2x256x2048, .f32⟩
  | 11 => ⟨S2x2048x256, .f32⟩
  | 12 => ⟨S2x2048x512, .f32⟩
  | 13 => ⟨S2x2048x128, .f32⟩
  | 14 => ⟨S1x1x128, .f32⟩
  | 15 => ⟨S2x2048x128, .f32⟩
  | 16 => ⟨S2x2048x128, .f32⟩
  | 17 => ⟨S2x2048x128, .f32⟩
  | 18 => ⟨S2x2048x128, .f32⟩
  | 19 => ⟨S_, .f32⟩
  | 20 => ⟨S2x2048x128, .f32⟩
  | 21 => ⟨S2x2048x128, .f32⟩
  | 22 => ⟨S2x2048x128, .f32⟩
  | 23 => ⟨S2x2048x128, .f32⟩
  | 24 => ⟨S2x1x2048x128, .f32⟩
  | 25 => ⟨S2x2048x128, .f32⟩
  | 26 => ⟨S2x2048x256, .f32⟩
  | 27 => ⟨S2x256x2048, .f32⟩
  | 28 => ⟨S2x2048x256, .f32⟩
  | 29 => ⟨S2x2048x512, .f32⟩
  | 30 => ⟨S2x2048x256, .f32⟩
  | 31 => ⟨S1x1x256, .f32⟩
  | 32 => ⟨S2x2048x256, .f32⟩
  | 33 => ⟨S2x2048x256, .f32⟩
  | 34 => ⟨S2x2048x256, .f32⟩
  | 35 => ⟨S2x2048x256, .f32⟩
  | 36 => ⟨S_, .f32⟩
  | 37 => ⟨S2x2048x256, .f32⟩
  | 38 => ⟨S2x2048x256, .f32⟩
  | 39 => ⟨S_, .f32⟩
  | 40 => ⟨S2x2048x256, .f32⟩
  | 41 => ⟨S2x2048x256, .f32⟩
  | 42 => ⟨S2x2048x128, .f32⟩
  | 43 => ⟨S2x2048x128, .f32⟩
  | 44 => ⟨S2x2048x128, .f32⟩
  | 45 => ⟨S2x2048x256, .f32⟩
  | 46 => ⟨S2x256x2048, .f32⟩
  | 47 => ⟨S2x2048x256, .f32⟩
  | 48 => ⟨S2x2048x512, .f32⟩
  | 49 => ⟨S2x2048x128, .f32⟩
  | 50 => ⟨S1x1x128, .f32⟩
  | 51 => ⟨S2x2048x128, .f32⟩
  | 52 => ⟨S2x2048x128, .f32⟩
  | 53 => ⟨S2x2048x128, .f32⟩
  | 54 => ⟨S2x2048x128, .f32⟩
  | 55 => ⟨S_, .f32⟩
  | 56 => ⟨S2x2048x128, .f32⟩
  | 57 => ⟨S2x2048x128, .f32⟩
  | 58 => ⟨S2x2048x128, .f32⟩
  | 59 => ⟨S2x2048x128, .f32⟩
  | 60 => ⟨S2x1x2048x128, .f32⟩
  | 61 => ⟨S2x2048x128, .f32⟩
  | 62 => ⟨S2x2048x256, .f32⟩
  | 63 => ⟨S2x256x2048, .f32⟩
  | 64 => ⟨S2x2048x256, .f32⟩
  | 65 => ⟨S2x2048x512, .f32⟩
  | 66 => ⟨S2x2048x256, .f32⟩
  | 67 => ⟨S1x1x256, .f32⟩
  | 68 => ⟨S2x2048x256, .f32⟩
  | 69 => ⟨S2x2048x256, .f32⟩
  | 70 => ⟨S2x2048x256, .f32⟩
  | 71 => ⟨S2x2048x256, .f32⟩
  | 72 => ⟨S_, .f32⟩
  | 73 => ⟨S2x2048x256, .f32⟩
  | 74 => ⟨S2x2048x256, .f32⟩
  | 75 => ⟨S_, .f32⟩
  | 76 => ⟨S2x2048x256, .f32⟩
  | 77 => ⟨S2x2048x256, .f32⟩
  | 78 => ⟨S2x2048x128, .f32⟩
  | 79 => ⟨S2x2048x128, .f32⟩
  | 80 => ⟨S2x2048x128, .f32⟩
  | 81 => ⟨S2x2048x256, .f32⟩
  | 82 => ⟨S2x256x2048, .f32⟩
  | 83 => ⟨S2x2048x256, .f32⟩
  | 84 => ⟨S2x2048x512, .f32⟩
  | 85 => ⟨S2x2048x128, .f32⟩
  | 86 => ⟨S1x1x128, .f32⟩
  | 87 => ⟨S2x2048x128, .f32⟩
  | 88 => ⟨S2x2048x128, .f32⟩
  | 89 => ⟨S2x2048x128, .f32⟩
  | 90 => ⟨S2x2048x128, .f32⟩
  | 91 => ⟨S_, .f32⟩
  | 92 => ⟨S2x2048x128, .f32⟩
  | 93 => ⟨S2x2048x128, .f32⟩
  | 94 => ⟨S2x2048x128, .f32⟩
  | 95 => ⟨S2x2048x128, .f32⟩
  | 96 => ⟨S128x1, .f32⟩
  | 97 => ⟨S_, .f32⟩
  | 98 => ⟨S_, .f32⟩
  | 99 => ⟨S_, .f32⟩
  | 100 => ⟨S_, .f32⟩
  | 101 => ⟨S_, .f32⟩
  | 102 => ⟨S128x1, .f32⟩
  | 103 => ⟨S128x1, .f32⟩
  | 104 => ⟨S2x2048x1, .f32⟩
  | 105 => ⟨S1x1x1, .f32⟩
  | 106 => ⟨S2x2048x1, .f32⟩
  | 107 => ⟨S2x2048x1, .f32⟩
  | 108 => ⟨S2x2048, .f32⟩
  | 109 => ⟨S_, .f32⟩
  | 110 => ⟨S_, .f32⟩
  | 111 => ⟨S_, .f32⟩
  | 112 => ⟨S_, .f32⟩
  | 113 => ⟨S1x1, .f32⟩
  | _ => ⟨S2x4x2048x128, .f32⟩

abbrev hbmTy (i : Nat) : BufTy := match i / 128 with
  | 0 => hbmTy0_0 i
  | 1 => hbmTy0_1 i
  | _ => ⟨S2x4x2048x128, .f32⟩

abbrev bufTy : (tb : Table) → Fin (tcTables nBuf tb) → BufTy
  | .hbm, ⟨i, _⟩ => hbmTy i
  | _, _ => ⟨S2x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_c : Ref sig .tc := ⟨.hbm, 14, rfl⟩
abbrev main_c_1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_v2_3 : Ref sig .tc := ⟨.hbm, 19, rfl⟩
abbrev main_v2_4 : Ref sig .tc := ⟨.hbm, 20, rfl⟩
abbrev main_v2_5 : Ref sig .tc := ⟨.hbm, 21, rfl⟩
abbrev main_while0c_c_30 : Ref sig .tc := ⟨.hbm, 22, rfl⟩
abbrev main_while0c_v172 : Ref sig .tc := ⟨.hbm, 23, rfl⟩
abbrev main_while0b_c_30 : Ref sig .tc := ⟨.hbm, 24, rfl⟩
abbrev main_while0b_v172 : Ref sig .tc := ⟨.hbm, 25, rfl⟩
abbrev main_while0b_v173 : Ref sig .tc := ⟨.hbm, 26, rfl⟩
abbrev main_while0b_v174 : Ref sig .tc := ⟨.hbm, 27, rfl⟩
abbrev main_while0b_v175 : Ref sig .tc := ⟨.hbm, 28, rfl⟩
abbrev main_while0b_v176 : Ref sig .tc := ⟨.hbm, 29, rfl⟩
abbrev main_while0b_cst_31 : Ref sig .tc := ⟨.hbm, 30, rfl⟩
abbrev main_while0b_v177 : Ref sig .tc := ⟨.hbm, 31, rfl⟩
abbrev main_while0b_v178 : Ref sig .tc := ⟨.hbm, 32, rfl⟩
abbrev main_while0b_cst_32 : Ref sig .tc := ⟨.hbm, 33, rfl⟩
abbrev main_while0b_v179 : Ref sig .tc := ⟨.hbm, 34, rfl⟩
abbrev main_while0b_v180 : Ref sig .tc := ⟨.hbm, 35, rfl⟩
abbrev main_while0b_v181 : Ref sig .tc := ⟨.hbm, 36, rfl⟩
abbrev main_while0b_v182 : Ref sig .tc := ⟨.hbm, 37, rfl⟩
abbrev main_while0b_v183 : Ref sig .tc := ⟨.hbm, 38, rfl⟩
abbrev main_while0b_v184 : Ref sig .tc := ⟨.hbm, 39, rfl⟩
abbrev main_while0b_v185 : Ref sig .tc := ⟨.hbm, 40, rfl⟩
abbrev main_while0b_cst_33 : Ref sig .tc := ⟨.hbm, 41, rfl⟩
abbrev main_while0b_v186 : Ref sig .tc := ⟨.hbm, 42, rfl⟩
abbrev main_while0b_v187 : Ref sig .tc := ⟨.hbm, 43, rfl⟩
abbrev main_while0b_cst_34 : Ref sig .tc := ⟨.hbm, 44, rfl⟩
abbrev main_while0b_v188 : Ref sig .tc := ⟨.hbm, 45, rfl⟩
abbrev main_while0b_v189 : Ref sig .tc := ⟨.hbm, 46, rfl⟩
abbrev main_while0b_v190 : Ref sig .tc := ⟨.hbm, 47, rfl⟩
abbrev main_while0b_c_35 : Ref sig .tc := ⟨.hbm, 48, rfl⟩
abbrev main_while0b_v191 : Ref sig .tc := ⟨.hbm, 49, rfl⟩
abbrev main_v3 : Ref sig .tc := ⟨.hbm, 50, rfl⟩
abbrev main_v4 : Ref sig .tc := ⟨.hbm, 51, rfl⟩
abbrev main_cst_2 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst_3 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst_4 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_8 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_cst_9 : Ref sig .tc := ⟨.hbm, 92, rfl⟩
abbrev main_v38 : Ref sig .tc := ⟨.hbm, 93, rfl⟩
abbrev main_v39 : Ref sig .tc := ⟨.hbm, 94, rfl⟩
abbrev main_cst_10 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_12 : Ref sig .tc := ⟨.hbm, 128, rfl⟩
abbrev main_v71 : Ref sig .tc := ⟨.hbm, 129, rfl⟩
abbrev main_v72 : Ref sig .tc := ⟨.hbm, 130, rfl⟩
abbrev main_cst_13 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_14 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_15 : Ref sig .tc := ⟨.hbm, 164, rfl⟩
abbrev main_v104 : Ref sig .tc := ⟨.hbm, 165, rfl⟩
abbrev main_v105 : Ref sig .tc := ⟨.hbm, 166, rfl⟩
abbrev main_cst_16 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_17 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_18 : Ref sig .tc := ⟨.hbm, 200, rfl⟩
abbrev main_v137 : Ref sig .tc := ⟨.hbm, 201, rfl⟩
abbrev main_v138 : Ref sig .tc := ⟨.hbm, 202, rfl⟩
abbrev main_cst_19 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_cst_20 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_21 : Ref sig .tc := ⟨.hbm, 225, rfl⟩
abbrev main_v159 : Ref sig .tc := ⟨.hbm, 226, rfl⟩
abbrev main_v160 : Ref sig .tc := ⟨.hbm, 227, rfl⟩
abbrev main_cst_22 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_cst_23 : Ref sig .tc := ⟨.hbm, 237, rfl⟩
abbrev main_v169 : Ref sig .tc := ⟨.hbm, 238, rfl⟩
abbrev main_cst_24 : Ref sig .tc := ⟨.hbm, 239, rfl⟩
abbrev main_v170 : Ref sig .tc := ⟨.hbm, 240, rfl⟩
abbrev main_v171 : Ref sig .tc := ⟨.hbm, 241, rfl⟩

abbrev nD : Nat := 1
abbrev τ : Topo := Topo.v7x

variable {F : FTy → Type} [FloatOps F]

abbrev main_while0_count : Scf.Loop 32 := ⟨0#32, 8192#32, 1#32⟩
-- ==== Proof.RefRun.lean ====
/-
  The run of the reference: what each of its buffers holds at the end, so the value of its result as a function of the
  arguments. @main is a stretch of host operations, one loop of 8192 trips (a step of the power method for each of the two
  gate weights) and a long stretch after the loop, listed here stage by stage: the two normalised weights, the hidden
  state at zero, four steps of the recurrence, the output.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- A float array of a shape. -/
abbrev Ar (F : FTy → Type) (s : Shape) : Type := (⟨s, .f32⟩ : BufTy).Contents (Elt F)
/-- An integer array of a shape. -/
abbrev ArI (F : FTy → Type) (s : Shape) : Type := (⟨s, .i32⟩ : BufTy).Contents (Elt F)

/-! ## The statements, stage by stage -/

/-- Before the loop: the two starting vectors and the copies the loop carries. -/
abbrev pre : List (HloOp τ sig (Elt F)) :=
  [ StableHlo.nullary main_cst (constant S_ .f32 0x3F800000#32),
    StableHlo.unary main_cst main_v0 (broadcastInDim S256 ![] bcast_S_S256 : Ar F S_ → Ar F S256),
    StableHlo.nullary main_cst_0 (constant S_ .f32 0x3F800000#32),
    StableHlo.unary main_cst_0 main_v1 (broadcastInDim S128 ![] bcast_S_S128 : Ar F S_ → Ar F S128),
    StableHlo.nullary main_c (constantI S_ 32 0#32),
    StableHlo.nullary main_c_1 (constantI S_ 32 0#32),
    StableHlo.unary main_arg4 main_v2_0 id,
    StableHlo.unary main_arg6 main_v2_1 id,
    StableHlo.unary main_c_1 main_v2_2 id,
    StableHlo.unary main_c main_v2_3 id,
    StableHlo.unary main_v0 main_v2_4 id,
    StableHlo.unary main_v1 main_v2_5 id ]

/-- `pre` touches buffers of the TensorCore only. -/
theorem pre_sub : (pre : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `pre` writes. -/
abbrev pre_W : List (Ref sig .tc) := [main_cst, main_v0, main_cst_0, main_v1, main_c, main_c_1, main_v2_0, main_v2_1, main_v2_2, main_v2_3, main_v2_4, main_v2_5]
/-- The buffers the stage writes are those listed. -/
theorem pre_writes : (pre : List (HloOp τ sig (Elt F))).Forall fun op => op.writes ⊆ (pre_W.map (Proc.devRef (τ := τ) .tc)).toFinset :=
  StableHlo.forall_writes_sub_of_map rfl

/-- One step of both power methods. -/
abbrev body : List (HloOp τ sig (Elt F)) :=
  [ StableHlo.nullary main_while0b_c_30 (constantI S_ 32 1#32),
    StableHlo.binary main_v2_3 main_while0b_c_30 main_while0b_v172 (addi : ArI F S_ → ArI F S_ → ArI F S_),
    StableHlo.unary main_v2_0 main_while0b_v173 ((transpose S256x512 [1, 0] · transposes_S512x256_S256x512_1_0) : Ar F S512x256 → Ar F S256x512),
    StableHlo.binary main_v2_0 main_v2_4 main_while0b_v174 ((fun l r => Host.dotGeneral dot_S512x256_S256_S512_1_0_0_n_n_n none l r) : Ar F S512x256 → Ar F S256 → Ar F S512),
    StableHlo.binary main_while0b_v173 main_while0b_v174 main_while0b_v175 ((fun l r => Host.dotGeneral dot_S256x512_S512_S256_1_0_0_n_n_n none l r) : Ar F S256x512 → Ar F S512 → Ar F S256),
    StableHlo.binary main_while0b_v175 main_while0b_v175 main_while0b_v176 (mulf : Ar F S256 → Ar F S256 → Ar F S256),
    StableHlo.nullary main_while0b_cst_31 (constant S_ .f32 0x00000000#32),
    StableHlo.binary main_while0b_v176 main_while0b_cst_31 main_while0b_v177 ((fun x v => Host.reduceAdd x v reducesTo_S256_S_d0 h_S_) : Ar F S256 → Ar F S_ → Ar F S_),
    StableHlo.unary main_while0b_v177 main_while0b_v178 (Host.sqrt : Ar F S_ → Ar F S_),
    StableHlo.nullary main_while0b_cst_32 (constant S_ .f32 0x2B8CBCCC#32),
    StableHlo.binary main_while0b_v178 main_while0b_cst_32 main_while0b_v179 (addf : Ar F S_ → Ar F S_ → Ar F S_),
    StableHlo.unary main_while0b_v179 main_while0b_v180 (broadcastInDim S256 ![] bcast_S_S256 : Ar F S_ → Ar F S256),
    StableHlo.binary main_while0b_v175 main_while0b_v180 main_while0b_v181 (Host.divf : Ar F S256 → Ar F S256 → Ar F S256),
    StableHlo.unary main_v2_1 main_while0b_v182 ((transpose S128x512 [1, 0] · transposes_S512x128_S128x512_1_0) : Ar F S512x128 → Ar F S128x512),
    StableHlo.binary main_v2_1 main_v2_5 main_while0b_v183 ((fun l r => Host.dotGeneral dot_S512x128_S128_S512_1_0_0_n_n_n none l r) : Ar F S512x128 → Ar F S128 → Ar F S512),
    StableHlo.binary main_while0b_v182 main_while0b_v183 main_while0b_v184 ((fun l r => Host.dotGeneral dot_S128x512_S512_S128_1_0_0_n_n_n none l r) : Ar F S128x512 → Ar F S512 → Ar F S128),
    StableHlo.binary main_while0b_v184 main_while0b_v184 main_while0b_v185 (mulf : Ar F S128 → Ar F S128 → Ar F S128),
    StableHlo.nullary main_while0b_cst_33 (constant S_ .f32 0x00000000#32),
    StableHlo.binary main_while0b_v185 main_while0b_cst_33 main_while0b_v186 ((fun x v => Host.reduceAdd x v reducesTo_S128_S_d0 h_S_) : Ar F S128 → Ar F S_ → Ar F S_),
    StableHlo.unary main_while0b_v186 main_while0b_v187 (Host.sqrt : Ar F S_ → Ar F S_),
    StableHlo.nullary main_while0b_cst_34 (constant S_ .f32 0x2B8CBCCC#32),
    StableHlo.binary main_while0b_v187 main_while0b_cst_34 main_while0b_v188 (addf : Ar F S_ → Ar F S_ → Ar F S_),
    StableHlo.unary main_while0b_v188 main_while0b_v189 (broadcastInDim S128 ![] bcast_S_S128 : Ar F S_ → Ar F S128),
    StableHlo.binary main_while0b_v184 main_while0b_v189 main_while0b_v190 (Host.divf : Ar F S128 → Ar F S128 → Ar F S128),
    StableHlo.nullary main_while0b_c_35 (constantI S_ 32 1#32),
    StableHlo.binary main_v2_2 main_while0b_c_35 main_while0b_v191 (addi : ArI F S_ → ArI F S_ → ArI F S_),
    StableHlo.unary main_while0b_v191 main_v2_2 id,
    StableHlo.unary main_while0b_v172 main_v2_3 id,
    StableHlo.unary main_while0b_v181 main_v2_4 id,
    StableHlo.unary main_while0b_v190 main_v2_5 id ]

/-- `body` touches buffers of the TensorCore only. -/
theorem body_sub : (body : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `body` writes. -/
abbrev body_W : List (Ref sig .tc) := [main_while0b_c_30, main_while0b_v172, main_while0b_v173, main_while0b_v174, main_while0b_v175, main_while0b_v176, main_while0b_cst_31, main_while0b_v177, main_while0b_v178, main_while0b_cst_32, main_while0b_v179, main_while0b_v180, main_while0b_v181, main_while0b_v182, main_while0b_v183, main_while0b_v184, main_while0b_v185, main_while0b_cst_33, main_while0b_v186, main_while0b_v187, main_while0b_cst_34, main_while0b_v188, main_while0b_v189, main_while0b_v190, main_while0b_c_35, main_while0b_v191, main_v2_2, main_v2_3, main_v2_4, main_v2_5]
/-- The buffers the stage writes are those listed. -/
theorem body_writes : (body : List (HloOp τ sig (Elt F))).Forall fun op => op.writes ⊆ (body_W.map (Proc.devRef (τ := τ) .tc)).toFinset :=
  StableHlo.forall_writes_sub_of_map rfl

/-- The division of W_ru by its largest singular value. -/
abbrev nRu : List (HloOp τ sig (Elt F)) :=
  [ StableHlo.binary main_arg4 main_v2_4 main_v3 ((fun l r => Host.dotGeneral dot_S512x256_S256_S512_1_0_0_n_n_n none l r) : Ar F S512x256 → Ar F S256 → Ar F S512),
    StableHlo.binary main_v3 main_v3 main_v4 (mulf : Ar F S512 → Ar F S512 → Ar F S512),
    StableHlo.nullary main_cst_2 (constant S_ .f32 0x00000000#32),
    StableHlo.binary main_v4 main_cst_2 main_v5 ((fun x v => Host.reduceAdd x v reducesTo_S512_S_d0 h_S_) : Ar F S512 → Ar F S_ → Ar F S_),
    StableHlo.unary main_v5 main_v6 (Host.sqrt : Ar F S_ → Ar F S_),
    StableHlo.binary main_v2_4 main_v2_4 main_v7 (mulf : Ar F S256 → Ar F S256 → Ar F S256),
    StableHlo.nullary main_cst_3 (constant S_ .f32 0x00000000#32),
    StableHlo.binary main_v7 main_cst_3 main_v8 ((fun x v => Host.reduceAdd x v reducesTo_S256_S_d0 h_S_) : Ar F S256 → Ar F S_ → Ar F S_),
    StableHlo.unary main_v8 main_v9 (Host.sqrt : Ar F S_ → Ar F S_),
    StableHlo.binary main_v6 main_v9 main_v10 (Host.divf : Ar F S_ → Ar F S_ → Ar F S_),
    StableHlo.nullary main_cst_4 (constant S_ .f32 0x2B8CBCCC#32),
    StableHlo.binary main_v10 main_cst_4 main_v11 (addf : Ar F S_ → Ar F S_ → Ar F S_),
    StableHlo.unary main_v11 main_v12 (broadcastInDim S512x256 ![] bcast_S_S512x256 : Ar F S_ → Ar F S512x256),
    StableHlo.binary main_arg4 main_v12 main_v13 (Host.divf : Ar F S512x256 → Ar F S512x256 → Ar F S512x256) ]

/-- `nRu` touches buffers of the TensorCore only. -/
theorem nRu_sub : (nRu : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `nRu` writes. -/
abbrev nRu_W : List (Ref sig .tc) := [main_v3, main_v4, main_cst_2, main_v5, main_v6, main_v7, main_cst_3, main_v8, main_v9, main_v10, main_cst_4, main_v11, main_v12, main_v13]
/-- The buffers the stage writes are those listed. -/
theorem nRu_writes : (nRu : List (HloOp τ sig (Elt F))).Forall fun op => op.writes ⊆ (nRu_W.map (Proc.devRef (τ := τ) .tc)).toFinset :=
  StableHlo.forall_writes_sub_of_map rfl

/-- The division of W_c by its largest singular value. -/
abbrev nC : List (HloOp τ sig (Elt F)) :=
  [ StableHlo.binary main_arg6 main_v2_5 main_v14 ((fun l r => Host.dotGeneral dot_S512x128_S128_S512_1_0_0_n_n_n none l r) : Ar F S512x128 → Ar F S128 → Ar F S512),
    StableHlo.binary main_v14 main_v14 main_v15 (mulf : Ar F S512 → Ar F S512 → Ar F S512),
    StableHlo.nullary main_cst_5 (constant S_ .f32 0x00000000#32),
    StableHlo.binary main_v15 main_cst_5 main_v16 ((fun x v => Host.reduceAdd x v reducesTo_S512_S_d0 h_S_) : Ar F S512 → Ar F S_ → Ar F S_),
    StableHlo.unary main_v16 main_v17 (Host.sqrt : Ar F S_ → Ar F S_),
    StableHlo.binary main_v2_5 main_v2_5 main_v18 (mulf : Ar F S128 → Ar F S128 → Ar F S128),
    StableHlo.nullary main_cst_6 (constant S_ .f32 0x00000000#32),
    StableHlo.binary main_v18 main_cst_6 main_v19 ((fun x v => Host.reduceAdd x v reducesTo_S128_S_d0 h_S_) : Ar F S128 → Ar F S_ → Ar F S_),
    StableHlo.unary main_v19 main_v20 (Host.sqrt : Ar F S_ → Ar F S_),
    StableHlo.binary main_v17 main_v20 main_v21 (Host.divf : Ar F S_ → Ar F S_ → Ar F S_),
    StableHlo.nullary main_cst_7 (constant S_ .f32 0x2B8CBCCC#32),
    StableHlo.binary main_v21 main_cst_7 main_v22 (addf : Ar F S_ → Ar F S_ → Ar F S_),
    StableHlo.unary main_v22 main_v23 (broadcastInDim S512x128 ![] bcast_S_S512x128 : Ar F S_ → Ar F S512x128),
    StableHlo.binary main_arg6 main_v23 main_v24 (Host.divf : Ar F S512x128 → Ar F S512x128 → Ar F S512x128) ]

/-- `nC` touches buffers of the TensorCore only. -/
theorem nC_sub : (nC : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `nC` writes. -/
abbrev nC_W : List (Ref sig .tc) := [main_v14, main_v15, main_cst_5, main_v16, main_v17, main_v18, main_cst_6, main_v19, main_v20, main_v21, main_cst_7, main_v22, main_v23, main_v24]
/-- The buffers the stage writes are those listed. -/
theorem nC_writes : (nC : List (HloOp τ sig (Elt F))).Forall fun op => op.writes ⊆ (nC_W.map (Proc.devRef (τ := τ) .tc)).toFinset :=
  StableHlo.forall_writes_sub_of_map rfl

/-- The hidden state at the start, zero. -/
abbrev zer : List (HloOp τ sig (Elt F)) :=
  [ StableHlo.nullary main_cst_8 (constant S_ .f32 0x00000000#32),
    StableHlo.unary main_cst_8 main_v25 (broadcastInDim S2x2048x128 ![] bcast_S_S2x2048x128 : Ar F S_ → Ar F S2x2048x128) ]

/-- `zer` touches buffers of the TensorCore only. -/
theorem zer_sub : (zer : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `zer` writes. -/
abbrev zer_W : List (Ref sig .tc) := [main_cst_8, main_v25]
/-- The buffers the stage writes are those listed. -/
theorem zer_writes : (zer : List (HloOp τ sig (Elt F))).Forall fun op => op.writes ⊆ (zer_W.map (Proc.devRef (τ := τ) .tc)).toFinset :=
  StableHlo.forall_writes_sub_of_map rfl

/-- The gates of step 0 of the recurrence, its first statements. -/
abbrev g0a : List (HloOp τ sig (Elt F)) :=
  [ StableHlo.unary main_arg0 main_v26 ((extractStridedSlice S2x1x2048x128 ![0, 0, 0, 0] · slices_S2x4x2048x128_S2x1x2048x128_0_0_0_0) : Ar F S2x4x2048x128 → Ar F S2x1x2048x128),
    StableHlo.reshape main_v26 main_v27 (rfl : (.f32 : EltTy) = .f32) shapeCasts_S2x1x2048x128_S2x2048x128,
    StableHlo.binary main_v27 main_v25 main_v28 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v28 main_arg2 main_v29 ((fun l r => Host.dotGeneral dot_S2x2048x256_S2048x2048_S2x256x2048_1_1_02_0_n_n none l r) : Ar F S2x2048x256 → Ar F S2048x2048 → Ar F S2x256x2048),
    StableHlo.unary main_v29 main_v30 ((transpose S2x2048x256 [0, 2, 1] · transposes_S2x256x2048_S2x2048x256_0_2_1) : Ar F S2x256x2048 → Ar F S2x2048x256),
    StableHlo.binary main_v28 main_v30 main_v31 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v31 main_v13 main_v32 ((fun l r => Host.dotGeneral dot_S2x2048x512_S512x256_S2x2048x256_2_0_01_1_n_n none l r) : Ar F S2x2048x512 → Ar F S512x256 → Ar F S2x2048x256),
    StableHlo.unary main_arg5 main_v33 (broadcastInDim S1x1x256 ![2] bcast_S256_S1x1x256_2 : Ar F S256 → Ar F S1x1x256),
    StableHlo.unary main_v33 main_v34 (broadcastInDim S2x2048x256 ![0, 1, 2] bcast_S1x1x256_S2x2048x256_0_1_2 : Ar F S1x1x256 → Ar F S2x2048x256),
    StableHlo.binary main_v32 main_v34 main_v35 (addf : Ar F S2x2048x256 → Ar F S2x2048x256 → Ar F S2x2048x256),
    StableHlo.unary main_v35 main_v36 (Host.negf : Ar F S2x2048x256 → Ar F S2x2048x256),
    StableHlo.unary main_v36 main_v37 (Host.exp : Ar F S2x2048x256 → Ar F S2x2048x256),
    StableHlo.nullary main_cst_9 (constant S_ .f32 0x3F800000#32),
    StableHlo.unary main_cst_9 main_v38 (broadcastInDim S2x2048x256 ![] bcast_S_S2x2048x256 : Ar F S_ → Ar F S2x2048x256),
    StableHlo.binary main_v38 main_v37 main_v39 (addf : Ar F S2x2048x256 → Ar F S2x2048x256 → Ar F S2x2048x256),
    StableHlo.nullary main_cst_10 (constant S_ .f32 0x3F800000#32),
    StableHlo.unary main_cst_10 main_v40 (broadcastInDim S2x2048x256 ![] bcast_S_S2x2048x256 : Ar F S_ → Ar F S2x2048x256) ]

/-- `g0a` touches buffers of the TensorCore only. -/
theorem g0a_sub : (g0a : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g0a` writes. -/
abbrev g0a_W : List (Ref sig .tc) := [main_v26, main_v27, main_v28, main_v29, main_v30, main_v31, main_v32, main_v33, main_v34, main_v35, main_v36, main_v37, main_cst_9, main_v38, main_v39, main_cst_10, main_v40]
/-- The buffers the stage writes are those listed. -/
theorem g0a_writes : (g0a : List (HloOp τ sig (Elt F))).Forall fun op => op.writes ⊆ (g0a_W.map (Proc.devRef (τ := τ) .tc)).toFinset :=
  StableHlo.forall_writes_sub_of_map rfl

/-- The gates of step 0 of the recurrence, its other statements. -/
abbrev g0b : List (HloOp τ sig (Elt F)) :=
  [ StableHlo.binary main_v40 main_v39 main_v41 (Host.divf : Ar F S2x2048x256 → Ar F S2x2048x256 → Ar F S2x2048x256) ]

/-- `g0b` touches buffers of the TensorCore only. -/
theorem g0b_sub : (g0b : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g0b` writes. -/
abbrev g0b_W : List (Ref sig .tc) := [main_v41]
/-- The buffers the stage writes are those listed. -/
theorem g0b_writes : (g0b : List (HloOp τ sig (Elt F))).Forall fun op => op.writes ⊆ (g0b_W.map (Proc.devRef (τ := τ) .tc)).toFinset :=
  StableHlo.forall_writes_sub_of_map rfl

/-- The new state of step 0 of the recurrence. -/
abbrev m0 : List (HloOp τ sig (Elt F)) :=
  [ StableHlo.unary main_v41 main_v42 ((extractStridedSlice S2x2048x128 ![0, 0, 0] · slices_S2x2048x256_S2x2048x128_0_0_0) : Ar F S2x2048x256 → Ar F S2x2048x128),
    StableHlo.unary main_v41 main_v43 ((extractStridedSlice S2x2048x128 ![0, 0, 128] · slices_S2x2048x256_S2x2048x128_0_0_128) : Ar F S2x2048x256 → Ar F S2x2048x128),
    StableHlo.binary main_v42 main_v25 main_v44 (mulf : Ar F S2x2048x128 → Ar F S2x2048x128 → Ar F S2x2048x128),
    StableHlo.binary main_v27 main_v44 main_v45 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v45 main_arg2 main_v46 ((fun l r => Host.dotGeneral dot_S2x2048x256_S2048x2048_S2x256x2048_1_1_02_0_n_n none l r) : Ar F S2x2048x256 → Ar F S2048x2048 → Ar F S2x256x2048),
    StableHlo.unary main_v46 main_v47 ((transpose S2x2048x256 [0, 2, 1] · transposes_S2x256x2048_S2x2048x256_0_2_1) : Ar F S2x256x2048 → Ar F S2x2048x256),
    StableHlo.binary main_v45 main_v47 main_v48 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v48 main_v24 main_v49 ((fun l r => Host.dotGeneral dot_S2x2048x512_S512x128_S2x2048x128_2_0_01_1_n_n none l r) : Ar F S2x2048x512 → Ar F S512x128 → Ar F S2x2048x128),
    StableHlo.unary main_arg7 main_v50 (broadcastInDim S1x1x128 ![2] bcast_S128_S1x1x128_2 : Ar F S128 → Ar F S1x1x128),
    StableHlo.unary main_v50 main_v51 (broadcastInDim S2x2048x128 ![0, 1, 2] bcast_S1x1x128_S2x2048x128_0_1_2 : Ar F S1x1x128 → Ar F S2x2048x128),
    StableHlo.binary main_v49 main_v51 main_v52 (addf : Ar F S2x2048x128 → Ar F S2x2048x128 → Ar F S2x2048x128),
    StableHlo.unary main_v52 main_v53 (Host.tanh : Ar F S2x2048x128 → Ar F S2x2048x128),
    StableHlo.binary main_v43 main_v25 main_v54 (mulf : Ar F S2x2048x128 → Ar F S2x2048x128 → Ar F S2x2048x128),
    StableHlo.nullary main_cst_11 (constant S_ .f32 0x3F800000#32),
    StableHlo.unary main_cst_11 main_v55 (broadcastInDim S2x2048x128 ![] bcast_S_S2x2048x128 : Ar F S_ → Ar F S2x2048x128),
    StableHlo.binary main_v55 main_v43 main_v56 (subf : Ar F S2x2048x128 → Ar F S2x2048x128 → Ar F S2x2048x128),
    StableHlo.binary main_v56 main_v53 main_v57 (mulf : Ar F S2x2048x128 → Ar F S2x2048x128 → Ar F S2x2048x128),
    StableHlo.binary main_v54 main_v57 main_v58 (addf : Ar F S2x2048x128 → Ar F S2x2048x128 → Ar F S2x2048x128) ]

/-- `m0` touches buffers of the TensorCore only. -/
theorem m0_sub : (m0 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `m0` writes. -/
abbrev m0_W : List (Ref sig .tc) := [main_v42, main_v43, main_v44, main_v45, main_v46, main_v47, main_v48, main_v49, main_v50, main_v51, main_v52, main_v53, main_v54, main_cst_11, main_v55, main_v56, main_v57, main_v58]
/-- The buffers the stage writes are those listed. -/
theorem m0_writes : (m0 : List (HloOp τ sig (Elt F))).Forall fun op => op.writes ⊆ (m0_W.map (Proc.devRef (τ := τ) .tc)).toFinset :=
  StableHlo.forall_writes_sub_of_map rfl

/-- The gates of step 1 of the recurrence. -/
abbrev g1 : List (HloOp τ sig (Elt F)) :=
  [ StableHlo.unary main_arg0 main_v59 ((extractStridedSlice S2x1x2048x128 ![0, 1, 0, 0] · slices_S2x4x2048x128_S2x1x2048x128_0_1_0_0) : Ar F S2x4x2048x128 → Ar F S2x1x2048x128),
    StableHlo.reshape main_v59 main_v60 (rfl : (.f32 : EltTy) = .f32) shapeCasts_S2x1x2048x128_S2x2048x128,
    StableHlo.binary main_v60 main_v58 main_v61 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v61 main_arg2 main_v62 ((fun l r => Host.dotGeneral dot_S2x2048x256_S2048x2048_S2x256x2048_1_1_02_0_n_n none l r) : Ar F S2x2048x256 → Ar F S2048x2048 → Ar F S2x256x2048),
    StableHlo.unary main_v62 main_v63 ((transpose S2x2048x256 [0, 2, 1] · transposes_S2x256x2048_S2x2048x256_0_2_1) : Ar F S2x256x2048 → Ar F S2x2048x256),
    StableHlo.binary main_v61 main_v63 main_v64 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v64 main_v13 main_v65 ((fun l r => Host.dotGeneral dot_S2x2048x512_S512x256_S2x2048x256_2_0_01_1_n_n none l r) : Ar F S2x2048x512 → Ar F S512x256 → Ar F S2x2048x256),
    StableHlo.unary main_arg5 main_v66 (broadcastInDim S1x1x256 ![2] bcast_S256_S1x1x256_2 : Ar F S256 → Ar F S1x1x256),
    StableHlo.unary main_v66 main_v67 (broadcastInDim S2x2048x256 ![0, 1, 2] bcast_S1x1x256_S2x2048x256_0_1_2 : Ar F S1x1x256 → Ar F S2x2048x256),
    StableHlo.binary main_v65 main_v67 main_v68 (addf : Ar F S2x2048x256 → Ar F S2x2048x256 → Ar F S2x2048x256),
    StableHlo.unary main_v68 main_v69 (Host.negf : Ar F S2x2048x256 → Ar F S2x2048x256),
    StableHlo.unary main_v69 main_v70 (Host.exp : Ar F S2x2048x256 → Ar F S2x2048x256),
    StableHlo.nullary main_cst_12 (constant S_ .f32 0x3F800000#32),
    StableHlo.unary main_cst_12 main_v71 (broadcastInDim S2x2048x256 ![] bcast_S_S2x2048x256 : Ar F S_ → Ar F S2x2048x256),
    StableHlo.binary main_v71 main_v70 main_v72 (addf : Ar F S2x2048x256 → Ar F S2x2048x256 → Ar F S2x2048x256),
    StableHlo.nullary main_cst_13 (constant S_ .f32 0x3F800000#32),
    StableHlo.unary main_cst_13 main_v73 (broadcastInDim S2x2048x256 ![] bcast_S_S2x2048x256 : Ar F S_ → Ar F S2x2048x256),
    StableHlo.binary main_v73 main_v72 main_v74 (Host.divf : Ar F S2x2048x256 → Ar F S2x2048x256 → Ar F S2x2048x256) ]

/-- `g1` touches buffers of the TensorCore only. -/
theorem g1_sub : (g1 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g1` writes. -/
abbrev g1_W : List (Ref sig .tc) := [main_v59, main_v60, main_v61, main_v62, main_v63, main_v64, main_v65, main_v66, main_v67, main_v68, main_v69, main_v70, main_cst_12, main_v71, main_v72, main_cst_13, main_v73, main_v74]
/-- The buffers the stage writes are those listed. -/
theorem g1_writes : (g1 : List (HloOp τ sig (Elt F))).Forall fun op => op.writes ⊆ (g1_W.map (Proc.devRef (τ := τ) .tc)).toFinset :=
  StableHlo.forall_writes_sub_of_map rfl

/-- The new state of step 1 of the recurrence. -/
abbrev m1 : List (HloOp τ sig (Elt F)) :=
  [ StableHlo.unary main_v74 main_v75 ((extractStridedSlice S2x2048x128 ![0, 0, 0] · slices_S2x2048x256_S2x2048x128_0_0_0) : Ar F S2x2048x256 → Ar F S2x2048x128),
    StableHlo.unary main_v74 main_v76 ((extractStridedSlice S2x2048x128 ![0, 0, 128] · slices_S2x2048x256_S2x2048x128_0_0_128) : Ar F S2x2048x256 → Ar F S2x2048x128),
    StableHlo.binary main_v75 main_v58 main_v77 (mulf : Ar F S2x2048x128 → Ar F S2x2048x128 → Ar F S2x2048x128),
    StableHlo.binary main_v60 main_v77 main_v78 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v78 main_arg2 main_v79 ((fun l r => Host.dotGeneral dot_S2x2048x256_S2048x2048_S2x256x2048_1_1_02_0_n_n none l r) : Ar F S2x2048x256 → Ar F S2048x2048 → Ar F S2x256x2048),
    StableHlo.unary main_v79 main_v80 ((transpose S2x2048x256 [0, 2, 1] · transposes_S2x256x2048_S2x2048x256_0_2_1) : Ar F S2x256x2048 → Ar F S2x2048x256),
    StableHlo.binary main_v78 main_v80 main_v81 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v81 main_v24 main_v82 ((fun l r => Host.dotGeneral dot_S2x2048x512_S512x128_S2x2048x128_2_0_01_1_n_n none l r) : Ar F S2x2048x512 → Ar F S512x128 → Ar F S2x2048x128),
    StableHlo.unary main_arg7 main_v83 (broadcastInDim S1x1x128 ![2] bcast_S128_S1x1x128_2 : Ar F S128 → Ar F S1x1x128),
    StableHlo.unary main_v83 main_v84 (broadcastInDim S2x2048x128 ![0, 1, 2] bcast_S1x1x128_S2x2048x128_0_1_2 : Ar F S1x1x128 → Ar F S2x2048x128),
    StableHlo.binary main_v82 main_v84 main_v85 (addf : Ar F S2x2048x128 → Ar F S2x2048x128 → Ar F S2x2048x128),
    StableHlo.unary main_v85 main_v86 (Host.tanh : Ar F S2x2048x128 → Ar F S2x2048x128),
    StableHlo.binary main_v76 main_v58 main_v87 (mulf : Ar F S2x2048x128 → Ar F S2x2048x128 → Ar F S2x2048x128),
    StableHlo.nullary main_cst_14 (constant S_ .f32 0x3F800000#32),
    StableHlo.unary main_cst_14 main_v88 (broadcastInDim S2x2048x128 ![] bcast_S_S2x2048x128 : Ar F S_ → Ar F S2x2048x128),
    StableHlo.binary main_v88 main_v76 main_v89 (subf : Ar F S2x2048x128 → Ar F S2x2048x128 → Ar F S2x2048x128),
    StableHlo.binary main_v89 main_v86 main_v90 (mulf : Ar F S2x2048x128 → Ar F S2x2048x128 → Ar F S2x2048x128),
    StableHlo.binary main_v87 main_v90 main_v91 (addf : Ar F S2x2048x128 → Ar F S2x2048x128 → Ar F S2x2048x128) ]

/-- `m1` touches buffers of the TensorCore only. -/
theorem m1_sub : (m1 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `m1` writes. -/
abbrev m1_W : List (Ref sig .tc) := [main_v75, main_v76, main_v77, main_v78, main_v79, main_v80, main_v81, main_v82, main_v83, main_v84, main_v85, main_v86, main_v87, main_cst_14, main_v88, main_v89, main_v90, main_v91]
/-- The buffers the stage writes are those listed. -/
theorem m1_writes : (m1 : List (HloOp τ sig (Elt F))).Forall fun op => op.writes ⊆ (m1_W.map (Proc.devRef (τ := τ) .tc)).toFinset :=
  StableHlo.forall_writes_sub_of_map rfl

/-- The gates of step 2 of the recurrence, its first statements. -/
abbrev g2a : List (HloOp τ sig (Elt F)) :=
  [ StableHlo.unary main_arg0 main_v92 ((extractStridedSlice S2x1x2048x128 ![0, 2, 0, 0] · slices_S2x4x2048x128_S2x1x2048x128_0_2_0_0) : Ar F S2x4x2048x128 → Ar F S2x1x2048x128),
    StableHlo.reshape main_v92 main_v93 (rfl : (.f32 : EltTy) = .f32) shapeCasts_S2x1x2048x128_S2x2048x128,
    StableHlo.binary main_v93 main_v91 main_v94 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v94 main_arg2 main_v95 ((fun l r => Host.dotGeneral dot_S2x2048x256_S2048x2048_S2x256x2048_1_1_02_0_n_n none l r) : Ar F S2x2048x256 → Ar F S2048x2048 → Ar F S2x256x2048),
    StableHlo.unary main_v95 main_v96 ((transpose S2x2048x256 [0, 2, 1] · transposes_S2x256x2048_S2x2048x256_0_2_1) : Ar F S2x256x2048 → Ar F S2x2048x256) ]

/-- `g2a` touches buffers of the TensorCore only. -/
theorem g2a_sub : (g2a : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g2a` writes. -/
abbrev g2a_W : List (Ref sig .tc) := [main_v92, main_v93, main_v94, main_v95, main_v96]
/-- The buffers the stage writes are those listed. -/
theorem g2a_writes : (g2a : List (HloOp τ sig (Elt F))).Forall fun op => op.writes ⊆ (g2a_W.map (Proc.devRef (τ := τ) .tc)).toFinset :=
  StableHlo.forall_writes_sub_of_map rfl

/-- The gates of step 2 of the recurrence, its other statements. -/
abbrev g2b : List (HloOp τ sig (Elt F)) :=
  [ StableHlo.binary main_v94 main_v96 main_v97 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v97 main_v13 main_v98 ((fun l r => Host.dotGeneral dot_S2x2048x512_S512x256_S2x2048x256_2_0_01_1_n_n none l r) : Ar F S2x2048x512 → Ar F S512x256 → Ar F S2x2048x256),
    StableHlo.unary main_arg5 main_v99 (broadcastInDim S1x1x256 ![2] bcast_S256_S1x1x256_2 : Ar F S256 → Ar F S1x1x256),
    StableHlo.unary main_v99 main_v100 (broadcastInDim S2x2048x256 ![0, 1, 2] bcast_S1x1x256_S2x2048x256_0_1_2 : Ar F S1x1x256 → Ar F S2x2048x256),
    StableHlo.binary main_v98 main_v100 main_v101 (addf : Ar F S2x2048x256 → Ar F S2x2048x256 → Ar F S2x2048x256),
    StableHlo.unary main_v101 main_v102 (Host.negf : Ar F S2x2048x256 → Ar F S2x2048x256),
    StableHlo.unary main_v102 main_v103 (Host.exp : Ar F S2x2048x256 → Ar F S2x2048x256),
    StableHlo.nullary main_cst_15 (constant S_ .f32 0x3F800000#32),
    StableHlo.unary main_cst_15 main_v104 (broadcastInDim S2x2048x256 ![] bcast_S_S2x2048x256 : Ar F S_ → Ar F S2x2048x256),
    StableHlo.binary main_v104 main_v103 main_v105 (addf : Ar F S2x2048x256 → Ar F S2x2048x256 → Ar F S2x2048x256),
    StableHlo.nullary main_cst_16 (constant S_ .f32 0x3F800000#32),
    StableHlo.unary main_cst_16 main_v106 (broadcastInDim S2x2048x256 ![] bcast_S_S2x2048x256 : Ar F S_ → Ar F S2x2048x256),
    StableHlo.binary main_v106 main_v105 main_v107 (Host.divf : Ar F S2x2048x256 → Ar F S2x2048x256 → Ar F S2x2048x256) ]

/-- `g2b` touches buffers of the TensorCore only. -/
theorem g2b_sub : (g2b : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g2b` writes. -/
abbrev g2b_W : List (Ref sig .tc) := [main_v97, main_v98, main_v99, main_v100, main_v101, main_v102, main_v103, main_cst_15, main_v104, main_v105, main_cst_16, main_v106, main_v107]
/-- The buffers the stage writes are those listed. -/
theorem g2b_writes : (g2b : List (HloOp τ sig (Elt F))).Forall fun op => op.writes ⊆ (g2b_W.map (Proc.devRef (τ := τ) .tc)).toFinset :=
  StableHlo.forall_writes_sub_of_map rfl

/-- The new state of step 2 of the recurrence. -/
abbrev m2 : List (HloOp τ sig (Elt F)) :=
  [ StableHlo.unary main_v107 main_v108 ((extractStridedSlice S2x2048x128 ![0, 0, 0] · slices_S2x2048x256_S2x2048x128_0_0_0) : Ar F S2x2048x256 → Ar F S2x2048x128),
    StableHlo.unary main_v107 main_v109 ((extractStridedSlice S2x2048x128 ![0, 0, 128] · slices_S2x2048x256_S2x2048x128_0_0_128) : Ar F S2x2048x256 → Ar F S2x2048x128),
    StableHlo.binary main_v108 main_v91 main_v110 (mulf : Ar F S2x2048x128 → Ar F S2x2048x128 → Ar F S2x2048x128),
    StableHlo.binary main_v93 main_v110 main_v111 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v111 main_arg2 main_v112 ((fun l r => Host.dotGeneral dot_S2x2048x256_S2048x2048_S2x256x2048_1_1_02_0_n_n none l r) : Ar F S2x2048x256 → Ar F S2048x2048 → Ar F S2x256x2048),
    StableHlo.unary main_v112 main_v113 ((transpose S2x2048x256 [0, 2, 1] · transposes_S2x256x2048_S2x2048x256_0_2_1) : Ar F S2x256x2048 → Ar F S2x2048x256),
    StableHlo.binary main_v111 main_v113 main_v114 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v114 main_v24 main_v115 ((fun l r => Host.dotGeneral dot_S2x2048x512_S512x128_S2x2048x128_2_0_01_1_n_n none l r) : Ar F S2x2048x512 → Ar F S512x128 → Ar F S2x2048x128),
    StableHlo.unary main_arg7 main_v116 (broadcastInDim S1x1x128 ![2] bcast_S128_S1x1x128_2 : Ar F S128 → Ar F S1x1x128),
    StableHlo.unary main_v116 main_v117 (broadcastInDim S2x2048x128 ![0, 1, 2] bcast_S1x1x128_S2x2048x128_0_1_2 : Ar F S1x1x128 → Ar F S2x2048x128),
    StableHlo.binary main_v115 main_v117 main_v118 (addf : Ar F S2x2048x128 → Ar F S2x2048x128 → Ar F S2x2048x128),
    StableHlo.unary main_v118 main_v119 (Host.tanh : Ar F S2x2048x128 → Ar F S2x2048x128),
    StableHlo.binary main_v109 main_v91 main_v120 (mulf : Ar F S2x2048x128 → Ar F S2x2048x128 → Ar F S2x2048x128),
    StableHlo.nullary main_cst_17 (constant S_ .f32 0x3F800000#32),
    StableHlo.unary main_cst_17 main_v121 (broadcastInDim S2x2048x128 ![] bcast_S_S2x2048x128 : Ar F S_ → Ar F S2x2048x128),
    StableHlo.binary main_v121 main_v109 main_v122 (subf : Ar F S2x2048x128 → Ar F S2x2048x128 → Ar F S2x2048x128),
    StableHlo.binary main_v122 main_v119 main_v123 (mulf : Ar F S2x2048x128 → Ar F S2x2048x128 → Ar F S2x2048x128),
    StableHlo.binary main_v120 main_v123 main_v124 (addf : Ar F S2x2048x128 → Ar F S2x2048x128 → Ar F S2x2048x128) ]

/-- `m2` touches buffers of the TensorCore only. -/
theorem m2_sub : (m2 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `m2` writes. -/
abbrev m2_W : List (Ref sig .tc) := [main_v108, main_v109, main_v110, main_v111, main_v112, main_v113, main_v114, main_v115, main_v116, main_v117, main_v118, main_v119, main_v120, main_cst_17, main_v121, main_v122, main_v123, main_v124]
/-- The buffers the stage writes are those listed. -/
theorem m2_writes : (m2 : List (HloOp τ sig (Elt F))).Forall fun op => op.writes ⊆ (m2_W.map (Proc.devRef (τ := τ) .tc)).toFinset :=
  StableHlo.forall_writes_sub_of_map rfl

/-- The gates of step 3 of the recurrence. -/
abbrev g3 : List (HloOp τ sig (Elt F)) :=
  [ StableHlo.unary main_arg0 main_v125 ((extractStridedSlice S2x1x2048x128 ![0, 3, 0, 0] · slices_S2x4x2048x128_S2x1x2048x128_0_3_0_0) : Ar F S2x4x2048x128 → Ar F S2x1x2048x128),
    StableHlo.reshape main_v125 main_v126 (rfl : (.f32 : EltTy) = .f32) shapeCasts_S2x1x2048x128_S2x2048x128,
    StableHlo.binary main_v126 main_v124 main_v127 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v127 main_arg2 main_v128 ((fun l r => Host.dotGeneral dot_S2x2048x256_S2048x2048_S2x256x2048_1_1_02_0_n_n none l r) : Ar F S2x2048x256 → Ar F S2048x2048 → Ar F S2x256x2048),
    StableHlo.unary main_v128 main_v129 ((transpose S2x2048x256 [0, 2, 1] · transposes_S2x256x2048_S2x2048x256_0_2_1) : Ar F S2x256x2048 → Ar F S2x2048x256),
    StableHlo.binary main_v127 main_v129 main_v130 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v130 main_v13 main_v131 ((fun l r => Host.dotGeneral dot_S2x2048x512_S512x256_S2x2048x256_2_0_01_1_n_n none l r) : Ar F S2x2048x512 → Ar F S512x256 → Ar F S2x2048x256),
    StableHlo.unary main_arg5 main_v132 (broadcastInDim S1x1x256 ![2] bcast_S256_S1x1x256_2 : Ar F S256 → Ar F S1x1x256),
    StableHlo.unary main_v132 main_v133 (broadcastInDim S2x2048x256 ![0, 1, 2] bcast_S1x1x256_S2x2048x256_0_1_2 : Ar F S1x1x256 → Ar F S2x2048x256),
    StableHlo.binary main_v131 main_v133 main_v134 (addf : Ar F S2x2048x256 → Ar F S2x2048x256 → Ar F S2x2048x256),
    StableHlo.unary main_v134 main_v135 (Host.negf : Ar F S2x2048x256 → Ar F S2x2048x256),
    StableHlo.unary main_v135 main_v136 (Host.exp : Ar F S2x2048x256 → Ar F S2x2048x256),
    StableHlo.nullary main_cst_18 (constant S_ .f32 0x3F800000#32),
    StableHlo.unary main_cst_18 main_v137 (broadcastInDim S2x2048x256 ![] bcast_S_S2x2048x256 : Ar F S_ → Ar F S2x2048x256),
    StableHlo.binary main_v137 main_v136 main_v138 (addf : Ar F S2x2048x256 → Ar F S2x2048x256 → Ar F S2x2048x256),
    StableHlo.nullary main_cst_19 (constant S_ .f32 0x3F800000#32),
    StableHlo.unary main_cst_19 main_v139 (broadcastInDim S2x2048x256 ![] bcast_S_S2x2048x256 : Ar F S_ → Ar F S2x2048x256),
    StableHlo.binary main_v139 main_v138 main_v140 (Host.divf : Ar F S2x2048x256 → Ar F S2x2048x256 → Ar F S2x2048x256) ]

/-- `g3` touches buffers of the TensorCore only. -/
theorem g3_sub : (g3 : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `g3` writes. -/
abbrev g3_W : List (Ref sig .tc) := [main_v125, main_v126, main_v127, main_v128, main_v129, main_v130, main_v131, main_v132, main_v133, main_v134, main_v135, main_v136, main_cst_18, main_v137, main_v138, main_cst_19, main_v139, main_v140]
/-- The buffers the stage writes are those listed. -/
theorem g3_writes : (g3 : List (HloOp τ sig (Elt F))).Forall fun op => op.writes ⊆ (g3_W.map (Proc.devRef (τ := τ) .tc)).toFinset :=
  StableHlo.forall_writes_sub_of_map rfl

/-- The new state of step 3 of the recurrence, its first statements. -/
abbrev m3a : List (HloOp τ sig (Elt F)) :=
  [ StableHlo.unary main_v140 main_v141 ((extractStridedSlice S2x2048x128 ![0, 0, 0] · slices_S2x2048x256_S2x2048x128_0_0_0) : Ar F S2x2048x256 → Ar F S2x2048x128),
    StableHlo.unary main_v140 main_v142 ((extractStridedSlice S2x2048x128 ![0, 0, 128] · slices_S2x2048x256_S2x2048x128_0_0_128) : Ar F S2x2048x256 → Ar F S2x2048x128),
    StableHlo.binary main_v141 main_v124 main_v143 (mulf : Ar F S2x2048x128 → Ar F S2x2048x128 → Ar F S2x2048x128),
    StableHlo.binary main_v126 main_v143 main_v144 ((fun a b => concatenate S2x2048x256 2 [⟨S2x2048x128, a⟩, ⟨S2x2048x128, b⟩] concatenates_S2x2048x128_S2x2048x128_S2x2048x256_d2) : Ar F S2x2048x128 → Ar F S2x2048x128 → Ar F S2x2048x256),
    StableHlo.binary main_v144 main_arg2 main_v145 ((fun l r => Host.dotGeneral dot_S2x2048x256_S2048x2048_S2x256x2048_1_1_02_0_n_n none l r) : Ar F S2x2048x256 → Ar F S2048x2048 → Ar F S2x256x2048),
    StableHlo.unary main_v145 main_v146 ((transpose S2x2048x256 [0, 2, 1] · transposes_S2x256x2048_S2x2048x256_0_2_1) : Ar F S2x256x2048 → Ar F S2x2048x256),
    StableHlo.binary main_v144 main_v146 main_v147 ((fun a b => concatenate S2x2048x512 2 [⟨S2x2048x256, a⟩, ⟨S2x2048x256, b⟩] concatenates_S2x2048x256_S2x2048x256_S2x2048x512_d2) : Ar F S2x2048x256 → Ar F S2x2048x256 → Ar F S2x2048x512),
    StableHlo.binary main_v147 main_v24 main_v148 ((fun l r => Host.dotGeneral dot_S2x2048x512_S512x128_S2x2048x128_2_0_01_1_n_n none l r) : Ar F S2x2048x512 → Ar F S512x128 → Ar F S2x2048x128),
    StableHlo.unary main_arg7 main_v149 (broadcastInDim S1x1x128 ![2] bcast_S128_S1x1x128_2 : Ar F S128 → Ar F S1x1x128),
    StableHlo.unary main_v149 main_v150 (broadcastInDim S2x2048x128 ![0, 1, 2] bcast_S1x1x128_S2x2048x128_0_1_2 : Ar F S1x1x128 → Ar F S2x2048x128),
    StableHlo.binary main_v148 main_v150 main_v151 (addf : Ar F S2x2048x128 → Ar F S2x2048x128 → Ar F S2x2048x128) ]

/-- `m3a` touches buffers of the TensorCore only. -/
theorem m3a_sub : (m3a : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `m3a` writes. -/
abbrev m3a_W : List (Ref sig .tc) := [main_v141, main_v142, main_v143, main_v144, main_v145, main_v146, main_v147, main_v148, main_v149, main_v150, main_v151]
/-- The buffers the stage writes are those listed. -/
theorem m3a_writes : (m3a : List (HloOp τ sig (Elt F))).Forall fun op => op.writes ⊆ (m3a_W.map (Proc.devRef (τ := τ) .tc)).toFinset :=
  StableHlo.forall_writes_sub_of_map rfl

/-- The new state of step 3 of the recurrence, its other statements. -/
abbrev m3b : List (HloOp τ sig (Elt F)) :=
  [ StableHlo.unary main_v151 main_v152 (Host.tanh : Ar F S2x2048x128 → Ar F S2x2048x128),
    StableHlo.binary main_v142 main_v124 main_v153 (mulf : Ar F S2x2048x128 → Ar F S2x2048x128 → Ar F S2x2048x128),
    StableHlo.nullary main_cst_20 (constant S_ .f32 0x3F800000#32),
    StableHlo.unary main_cst_20 main_v154 (broadcastInDim S2x2048x128 ![] bcast_S_S2x2048x128 : Ar F S_ → Ar F S2x2048x128),
    StableHlo.binary main_v154 main_v142 main_v155 (subf : Ar F S2x2048x128 → Ar F S2x2048x128 → Ar F S2x2048x128),
    StableHlo.binary main_v155 main_v152 main_v156 (mulf : Ar F S2x2048x128 → Ar F S2x2048x128 → Ar F S2x2048x128),
    StableHlo.binary main_v153 main_v156 main_v157 (addf : Ar F S2x2048x128 → Ar F S2x2048x128 → Ar F S2x2048x128) ]

/-- `m3b` touches buffers of the TensorCore only. -/
theorem m3b_sub : (m3b : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `m3b` writes. -/
abbrev m3b_W : List (Ref sig .tc) := [main_v152, main_v153, main_cst_20, main_v154, main_v155, main_v156, main_v157]
/-- The buffers the stage writes are those listed. -/
theorem m3b_writes : (m3b : List (HloOp τ sig (Elt F))).Forall fun op => op.writes ⊆ (m3b_W.map (Proc.devRef (τ := τ) .tc)).toFinset :=
  StableHlo.forall_writes_sub_of_map rfl

/-- The output layer and the mean. -/
abbrev fin : List (HloOp τ sig (Elt F)) :=
  [ StableHlo.binary main_arg8 main_arg8 main_v158 (mulf : Ar F S128x1 → Ar F S128x1 → Ar F S128x1),
    StableHlo.nullary main_cst_21 (constant S_ .f32 0x00000000#32),
    StableHlo.binary main_v158 main_cst_21 main_v159 ((fun x v => Host.reduceAdd x v reducesTo_S128x1_S_d0_1 h_S_) : Ar F S128x1 → Ar F S_ → Ar F S_),
    StableHlo.unary main_v159 main_v160 (Host.sqrt : Ar F S_ → Ar F S_),
    StableHlo.nullary main_cst_22 (constant S_ .f32 0x2B8CBCCC#32),
    StableHlo.binary main_v160 main_cst_22 main_v161 (addf : Ar F S_ → Ar F S_ → Ar F S_),
    StableHlo.unary main_v161 main_v162 (broadcastInDim S128x1 ![] bcast_S_S128x1 : Ar F S_ → Ar F S128x1),
    StableHlo.binary main_arg8 main_v162 main_v163 (Host.divf : Ar F S128x1 → Ar F S128x1 → Ar F S128x1),
    StableHlo.binary main_v157 main_v163 main_v164 ((fun l r => Host.dotGeneral dot_S2x2048x128_S128x1_S2x2048x1_2_0_01_1_n_n none l r) : Ar F S2x2048x128 → Ar F S128x1 → Ar F S2x2048x1),
    StableHlo.unary main_arg9 main_v165 (broadcastInDim S1x1x1 ![2] bcast_S1_S1x1x1_2 : Ar F S1 → Ar F S1x1x1),
    StableHlo.unary main_v165 main_v166 (broadcastInDim S2x2048x1 ![0, 1, 2] bcast_S1x1x1_S2x2048x1_0_1_2 : Ar F S1x1x1 → Ar F S2x2048x1),
    StableHlo.binary main_v164 main_v166 main_v167 (addf : Ar F S2x2048x1 → Ar F S2x2048x1 → Ar F S2x2048x1),
    StableHlo.reshape main_v167 main_v168 (rfl : (.f32 : EltTy) = .f32) shapeCasts_S2x2048x1_S2x2048,
    StableHlo.nullary main_cst_23 (constant S_ .f32 0x00000000#32),
    StableHlo.binary main_v168 main_cst_23 main_v169 ((fun x v => Host.reduceAdd x v reducesTo_S2x2048_S_d0_1 h_S_) : Ar F S2x2048 → Ar F S_ → Ar F S_),
    StableHlo.nullary main_cst_24 (constant S_ .f32 0x45800000#32),
    StableHlo.binary main_v169 main_cst_24 main_v170 (Host.divf : Ar F S_ → Ar F S_ → Ar F S_),
    StableHlo.reshape main_v170 main_v171 (rfl : (.f32 : EltTy) = .f32) shapeCasts_S_S1x1 ]

/-- `fin` touches buffers of the TensorCore only. -/
theorem fin_sub : (fin : List (HloOp τ sig (Elt F))).Forall fun op => op.bufs ⊆ StableHlo.tcRefs τ sig := by
  simp only [List.Forall, StableHlo.nullary_bufs_sub, StableHlo.unary_bufs_sub, StableHlo.binary_bufs_sub, StableHlo.reshape_bufs_sub, and_self]
/-- The buffers `fin` writes. -/
abbrev fin_W : List (Ref sig .tc) := [main_v158, main_cst_21, main_v159, main_v160, main_cst_22, main_v161, main_v162, main_v163, main_v164, main_v165, main_v166, main_v167, main_v168, main_cst_23, main_v169, main_cst_24, main_v170, main_v171]
/-- The buffers the stage writes are those listed. -/
theorem fin_writes : (fin : List (HloOp τ sig (Elt F))).Forall fun op => op.writes ⊆ (fin_W.map (Proc.devRef (τ := τ) .tc)).toFinset :=
  StableHlo.forall_writes_sub_of_map rfl

/-- The statements of window 0 of @main after the loop. -/
abbrev post0 : List (HloOp τ sig (Elt F)) := nRu ++ (nC ++ (zer ++ (g0a)))
/-- The stretch touches buffers of the TensorCore only. -/
theorem post0_sub : (post0 : List (HloOp τ sig (Elt F))).Forall fun op => op.bufs ⊆ StableHlo.tcRefs τ sig :=
  List.forall_append.mpr ⟨nRu_sub, List.forall_append.mpr ⟨nC_sub, List.forall_append.mpr ⟨zer_sub, g0a_sub⟩⟩⟩
/-- The stretch draws no fresh value. -/
theorem post0_fresh : (post0 : List (HloOp τ sig (Elt F))).Forall fun op => op.fresh = ∅ :=
  StableHlo.forall_fresh_of_map rfl

/-- The statements of window 1 of @main after the loop. -/
abbrev post1 : List (HloOp τ sig (Elt F)) := g0b ++ (m0 ++ (g1 ++ (m1 ++ (g2a))))
/-- The stretch touches buffers of the TensorCore only. -/
theorem post1_sub : (post1 : List (HloOp τ sig (Elt F))).Forall fun op => op.bufs ⊆ StableHlo.tcRefs τ sig :=
  List.forall_append.mpr ⟨g0b_sub, List.forall_append.mpr ⟨m0_sub, List.forall_append.mpr ⟨g1_sub, List.forall_append.mpr ⟨m1_sub, g2a_sub⟩⟩⟩⟩
/-- The stretch draws no fresh value. -/
theorem post1_fresh : (post1 : List (HloOp τ sig (Elt F))).Forall fun op => op.fresh = ∅ :=
  StableHlo.forall_fresh_of_map rfl

/-- The statements of window 2 of @main after the loop. -/
abbrev post2 : List (HloOp τ sig (Elt F)) := g2b ++ (m2 ++ (g3 ++ (m3a)))
/-- The stretch touches buffers of the TensorCore only. -/
theorem post2_sub : (post2 : List (HloOp τ sig (Elt F))).Forall fun op => op.bufs ⊆ StableHlo.tcRefs τ sig :=
  List.forall_append.mpr ⟨g2b_sub, List.forall_append.mpr ⟨m2_sub, List.forall_append.mpr ⟨g3_sub, m3a_sub⟩⟩⟩
/-- The stretch draws no fresh value. -/
theorem post2_fresh : (post2 : List (HloOp τ sig (Elt F))).Forall fun op => op.fresh = ∅ :=
  StableHlo.forall_fresh_of_map rfl

/-- The statements of window 3 of @main after the loop. -/
abbrev post3 : List (HloOp τ sig (Elt F)) := m3b ++ (fin)
/-- The stretch touches buffers of the TensorCore only. -/
theorem post3_sub : (post3 : List (HloOp τ sig (Elt F))).Forall fun op => op.bufs ⊆ StableHlo.tcRefs τ sig :=
  List.forall_append.mpr ⟨m3b_sub, fin_sub⟩
/-- The stretch draws no fresh value. -/
theorem post3_fresh : (post3 : List (HloOp τ sig (Elt F))).Forall fun op => op.fresh = ∅ :=
  StableHlo.forall_fresh_of_map rfl

/-! ## @main as the chain of its stretches -/

/-- The type of a piece of the reference's program. -/
abbrev RProg (F : FTy → Type) [FloatOps F] : Type 1 :=
  Prog (TpuEff nD τ sig (Elt F) (HostLoop.Sig (Pipeline.Sig Λ₀ (Fin 0) fun p => (pcfgs (F := F) p).Adm) 1) .tc) PUnit

/-- A part of @main as the chain of its stretches. -/
theorem part0_chain (c : Dev nD) : main_part0 (F := F) c = (Pipeline.chainK [seq pre, HostLoop.enter 0] (seq post0) : RProg F) := by
  rewrite [StableHlo.chainK_seq_cons, Pipeline.chainK_cons]
  chain_rfl

/-- A part of @main as the chain of its stretches. -/
theorem part1_chain (c : Dev nD) : main_part1 (F := F) c = (Pipeline.chainK [] (seq post1) : RProg F) := by
  chain_rfl

/-- A part of @main as the chain of its stretches. -/
theorem part2_chain (c : Dev nD) : main_part2 (F := F) c = (Pipeline.chainK [] (seq post2) : RProg F) := by
  chain_rfl

/-- A part of @main as the chain of its stretches. -/
theorem part3_chain (c : Dev nD) : main_part3 (F := F) c = (Pipeline.chain [seq post3] : RProg F) := by
  rewrite [StableHlo.chain_seq_cons]
  chain_rfl

/-- @main is the stretch before the loop, the loop, and the four stretches after it. -/
theorem main_chain (c : Dev nD) : main (F := F) c =
    (Pipeline.chain [seq pre, HostLoop.enter 0, seq post0, seq post1, seq post2, seq post3] : RProg F) := by
  show (main_part0 (F := F) c >>= fun _ => main_part1 (F := F) c >>= fun _ => main_part2 (F := F) c >>= fun _ => main_part3 (F := F) c) = _
  rewrite [part3_chain, part2_chain, Pipeline.chainK_bind_chain, part1_chain, Pipeline.chainK_bind_chain, part0_chain, Pipeline.chainK_bind_chain]
  chain_rfl

/-- The loop's body is one stretch. -/
theorem body_chain : main_while0_body (F := F) = (Pipeline.chain [seq body] : RProg F) := by
  rewrite [StableHlo.chain_seq_cons]
  chain_rfl

/-! ## The loop's data -/

/-- The loop's condition: the bound, and the counter compared with it. -/
abbrev condOps : List (HloOp τ sig (Elt F)) :=
  [ StableHlo.nullary main_while0c_c_30 (constantI S_ 32 8192#32),
    StableHlo.binary main_v2_2 main_while0c_c_30 main_while0c_v172 (cmpi .slt) ]
/-- The buffers the loop's test writes. -/
abbrev condOps_W : List (Ref sig .tc) := [main_while0c_c_30, main_while0c_v172]
/-- The buffers the stage writes are those listed. -/
theorem condOps_writes : (condOps : List (HloOp τ sig (Elt F))).Forall fun op => op.writes ⊆ (condOps_W.map (Proc.devRef (τ := τ) .tc)).toFinset :=
  StableHlo.forall_writes_sub_of_map rfl

/-- The stretch before the loop. -/
abbrev preI : List (List (HloOp τ sig (Elt F))) := [pre]
/-- The loop's body. -/
abbrev bodyI : List (List (HloOp τ sig (Elt F))) := [body]
/-- The stretches after the loop. -/
abbrev postI : List (List (HloOp τ sig (Elt F))) := [post0, post1, post2, post3]

/-- The stretches are plain host operations. -/
theorem hpre : Plain (preI (F := F)) := .cons pre_sub .nil (hf := List.forall_iff_forall_mem.mp (StableHlo.forall_fresh_of_map rfl))
/-- The stretches are plain host operations. -/
theorem hbodyI : Plain (bodyI (F := F)) := .cons body_sub .nil (hf := List.forall_iff_forall_mem.mp (StableHlo.forall_fresh_of_map rfl))
/-- The stretches are plain host operations. -/
theorem hpost : Plain (postI (F := F)) :=
  .cons post0_sub (hf := List.forall_iff_forall_mem.mp post0_fresh) <| .cons post1_sub (hf := List.forall_iff_forall_mem.mp post1_fresh) <|
    .cons post2_sub (hf := List.forall_iff_forall_mem.mp post2_fresh) <| .cons post3_sub (hf := List.forall_iff_forall_mem.mp post3_fresh) .nil

variable (m : (ℓ : Loc nD τ sig) → Buf (Elt F) ℓ) (ρ : Dev nD → PrngReg)

/-- Every buffer's contents before the `k`-th test of the condition, counted from 0. -/
abbrev atK (k : ℕ) (c : Dev nD) : Valuation τ sig (Elt F) := atTrip condOps bodyI (entryContents preI m) k c

/-- The condition writes no buffer but its own two. -/
theorem cond_keep (V : Valuation τ sig (Elt F)) (r : Ref sig .tc) (h : r ∉ condOps_W) :
    after condOps V (Proc.devRef .tc r) = V (Proc.devRef .tc r) :=
  after_of_writes_sub condOps V condOps_writes h

/-- A trip: the test's operations, then the body's. -/
theorem atK_succ (k : ℕ) (c : Dev nD) : atK m (k + 1) c = after body (after condOps (atK m k c)) := rfl

/-- Before the first test: what the stretch before the loop leaves. -/
theorem atK_zero (c : Dev nD) : atK m 0 c = after pre (launchContents m c) := rfl

set_option maxRecDepth 100000 in
/-- A trip puts the counter one step on. -/
theorem ctr_step (X : Valuation τ sig (Elt F)) :
    after body X (Proc.devRef .tc main_v2_2) = addi (X (Proc.devRef .tc main_v2_2)) (constantI S_ 32 1#32) := by
  after_reads_simp
  rfl

/-- The counter starts at zero. -/
theorem ctr_entry (c : Dev nD) : after pre (launchContents m c) (Proc.devRef .tc main_v2_2) = fun _ => (0#32 : BitVec 32) := by
  after_reads_simp
  rfl

/-- Before the `k`-th test the counter is `k`. -/
theorem atK_ctr (c : Dev nD) : ∀ k, atK m k c (Proc.devRef .tc main_v2_2) = fun _ => Scf.iv 0#32 1#32 k
  | 0 => by rw [atK_zero, ctr_entry, Scf.iv_zero]
  | k + 1 => by
    rw [atK_succ, ctr_step, cond_keep _ _ (by decide), atK_ctr c k, Scf.iv_succ]
    rfl

-- `iapply` of a rule stated for any thread at the TensorCore thread unifies only when unification may unfold
-- plain definitions in a metavariable's type
set_option backward.isDefEq.respectTransparency.types false in
/-- The condition holds at exactly the first 8192 tests. -/
theorem cond_spec : CondSpec (pcfgs (F := F)) defs₀ loops (main_while0_cond (F := F)) condOps bodyI (entryContents preI m) 8192 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_2 HostLoop.idx0)
        (HloOp.result _ (atK m k c) main_while0c_c_30 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  rw [after_cons, after_cons, after_nil]; iexact Hh

set_option maxRecDepth 100000 in
/-- Every execution of the reference ends, with each buffer at the contents its statements give in order. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8192 m c (Proc.devRef .tc b)) :=
  run_loop (pcfgs (F := F)) defs₀ loops main 0 main_while0_cond main_while0_body rfl preI bodyI postI condOps hpre hbodyI hpost
    (fun c => by rw [main_chain]; rfl) (by rw [body_chain]; rfl) 8192 m ρ (cond_spec m)

/-! ## What the stages compute -/

/-- One step of the power method for W_ru: `y = Wᵀ (W u)` over its length. -/
def stepRu (W : Ar F S512x256) (u : Ar F S256) : Ar F S256 :=
  let y : Ar F S256 := Host.dotGeneral dot_S256x512_S512_S256_1_0_0_n_n_n none (transpose S256x512 [1, 0] W transposes_S512x256_S256x512_1_0)
    (Host.dotGeneral dot_S512x256_S256_S512_1_0_0_n_n_n none W u)
  Host.divf y (broadcastInDim S256 ![] bcast_S_S256 (addf (Host.sqrt (Host.reduceAdd (mulf y y) (constant S_ .f32 0x00000000#32) reducesTo_S256_S_d0 h_S_)) (constant S_ .f32 0x2B8CBCCC#32)))

/-- One step of the power method for W_c. -/
def stepC (W : Ar F S512x128) (u : Ar F S128) : Ar F S128 :=
  let y : Ar F S128 := Host.dotGeneral dot_S128x512_S512_S128_1_0_0_n_n_n none (transpose S128x512 [1, 0] W transposes_S512x128_S128x512_1_0)
    (Host.dotGeneral dot_S512x128_S128_S512_1_0_0_n_n_n none W u)
  Host.divf y (broadcastInDim S128 ![] bcast_S_S128 (addf (Host.sqrt (Host.reduceAdd (mulf y y) (constant S_ .f32 0x00000000#32) reducesTo_S128_S_d0 h_S_)) (constant S_ .f32 0x2B8CBCCC#32)))

/-- The vectors the power methods start from: ones. -/
def oneRu : Ar F S256 := broadcastInDim S256 ![] bcast_S_S256 (constant S_ .f32 0x3F800000#32)
/-- The starting vector for W_c. -/
def oneC : Ar F S128 := broadcastInDim S128 ![] bcast_S_S128 (constant S_ .f32 0x3F800000#32)

/-- W_ru by its largest singular value `‖W u‖ / ‖u‖`. -/
def normRu (W : Ar F S512x256) (u : Ar F S256) : Ar F S512x256 :=
  let y : Ar F S512 := Host.dotGeneral dot_S512x256_S256_S512_1_0_0_n_n_n none W u
  Host.divf W (broadcastInDim S512x256 ![] bcast_S_S512x256 (addf
    (Host.divf (Host.sqrt (Host.reduceAdd (mulf y y) (constant S_ .f32 0x00000000#32) reducesTo_S512_S_d0 h_S_))
      (Host.sqrt (Host.reduceAdd (mulf u u) (constant S_ .f32 0x00000000#32) reducesTo_S256_S_d0 h_S_)))
    (constant S_ .f32 0x2B8CBCCC#32)))

/-- W_c by its largest singular value. -/
def normC (W : Ar F S512x128) (u : Ar F S128) : Ar F S512x128 :=
  let y : Ar F S512 := Host.dotGeneral dot_S512x128_S128_S512_1_0_0_n_n_n none W u
  Host.divf W (broadcastInDim S512x128 ![] bcast_S_S512x128 (addf
    (Host.divf (Host.sqrt (Host.reduceAdd (mulf y y) (constant S_ .f32 0x00000000#32) reducesTo_S512_S_d0 h_S_))
      (Host.sqrt (Host.reduceAdd (mulf u u) (constant S_ .f32 0x00000000#32) reducesTo_S128_S_d0 h_S_)))
    (constant S_ .f32 0x2B8CBCCC#32)))

/-- The hidden state at the start. -/
def h0 : Ar F S2x2048x128 := broadcastInDim S2x2048x128 ![] bcast_S_S2x2048x128 (constant S_ .f32 0x00000000#32)

/-- `[x, h]` side by side. -/
def pair (x h : Ar F S2x2048x128) : Ar F S2x2048x256 :=
  concatenate S2x2048x256 2 [⟨S2x2048x128, x⟩, ⟨S2x2048x128, h⟩] concatenates_S2x2048x128_S2x2048x128_S2x2048x256_d2

/-- The diffusion step: the input beside `A` times the input. -/
def dconv (i : Ar F S2x2048x256) (A : Ar F S2048x2048) : Ar F S2x2048x512 :=
  concatenate S2x2048x512 2 [⟨S2x2048x256, i⟩, ⟨S2x2048x256, transpose S2x2048x256 [0, 2, 1]
    (Host.dotGeneral dot_S2x2048x256_S2048x2048_S2x256x2048_1_1_02_0_n_n none i A) transposes_S2x256x2048_S2x2048x256_0_2_1⟩]
    concatenates_S2x2048x256_S2x2048x256_S2x2048x512_d2

/-- Both gates: the logistic function of the diffusion step by the normalised W_ru plus the bias. -/
def gates (x h : Ar F S2x2048x128) (A : Ar F S2048x2048) (W : Ar F S512x256) (b : Ar F S256) : Ar F S2x2048x256 :=
  Host.divf (broadcastInDim S2x2048x256 ![] bcast_S_S2x2048x256 (constant S_ .f32 0x3F800000#32))
    (addf (broadcastInDim S2x2048x256 ![] bcast_S_S2x2048x256 (constant S_ .f32 0x3F800000#32))
      (Host.exp (Host.negf (addf (Host.dotGeneral dot_S2x2048x512_S512x256_S2x2048x256_2_0_01_1_n_n none (dconv (pair x h) A) W)
        (broadcastInDim S2x2048x256 ![0, 1, 2] bcast_S1x1x256_S2x2048x256_0_1_2 (broadcastInDim S1x1x256 ![2] bcast_S256_S1x1x256_2 b))))))

/-- The candidate: the hyperbolic tangent of the diffusion step of `[x, r h]` by the normalised W_c plus the bias. -/
def cand (x rh : Ar F S2x2048x128) (A : Ar F S2048x2048) (W : Ar F S512x128) (b : Ar F S128) : Ar F S2x2048x128 :=
  Host.tanh (addf (Host.dotGeneral dot_S2x2048x512_S512x128_S2x2048x128_2_0_01_1_n_n none (dconv (pair x rh) A) W)
    (broadcastInDim S2x2048x128 ![0, 1, 2] bcast_S1x1x128_S2x2048x128_0_1_2 (broadcastInDim S1x1x128 ![2] bcast_S128_S1x1x128_2 b)))

/-- `u h + (1 - u) c` of the gates `g`, with `c` at the reset state `r h`. -/
def mix (g : Ar F S2x2048x256) (x h : Ar F S2x2048x128) (A : Ar F S2048x2048) (W : Ar F S512x128) (b : Ar F S128) : Ar F S2x2048x128 :=
  addf (mulf (extractStridedSlice S2x2048x128 ![0, 0, 128] g slices_S2x2048x256_S2x2048x128_0_0_128) h)
    (mulf (subf (broadcastInDim S2x2048x128 ![] bcast_S_S2x2048x128 (constant S_ .f32 0x3F800000#32))
        (extractStridedSlice S2x2048x128 ![0, 0, 128] g slices_S2x2048x256_S2x2048x128_0_0_128))
      (cand x (mulf (extractStridedSlice S2x2048x128 ![0, 0, 0] g slices_S2x2048x256_S2x2048x128_0_0_0) h) A W b))

/-- One step of the recurrence. -/
def cell (x h : Ar F S2x2048x128) (A : Ar F S2048x2048) (Wr : Ar F S512x256) (br : Ar F S256) (Wc : Ar F S512x128) (bc : Ar F S128) : Ar F S2x2048x128 :=
  mix (gates x h A Wr br) x h A Wc bc

/-- The input at step 0, 1, 2, 3. -/
def x0 (X : Ar F S2x4x2048x128) : Ar F S2x2048x128 :=
  shapeCast S2x2048x128 (extractStridedSlice S2x1x2048x128 ![0, 0, 0, 0] X slices_S2x4x2048x128_S2x1x2048x128_0_0_0_0) shapeCasts_S2x1x2048x128_S2x2048x128
/-- The input at the next step. -/
def x1 (X : Ar F S2x4x2048x128) : Ar F S2x2048x128 :=
  shapeCast S2x2048x128 (extractStridedSlice S2x1x2048x128 ![0, 1, 0, 0] X slices_S2x4x2048x128_S2x1x2048x128_0_1_0_0) shapeCasts_S2x1x2048x128_S2x2048x128
/-- The input at the next step. -/
def x2 (X : Ar F S2x4x2048x128) : Ar F S2x2048x128 :=
  shapeCast S2x2048x128 (extractStridedSlice S2x1x2048x128 ![0, 2, 0, 0] X slices_S2x4x2048x128_S2x1x2048x128_0_2_0_0) shapeCasts_S2x1x2048x128_S2x2048x128
/-- The input at the next step. -/
def x3 (X : Ar F S2x4x2048x128) : Ar F S2x2048x128 :=
  shapeCast S2x2048x128 (extractStridedSlice S2x1x2048x128 ![0, 3, 0, 0] X slices_S2x4x2048x128_S2x1x2048x128_0_3_0_0) shapeCasts_S2x1x2048x128_S2x2048x128

/-- W_out by its length (a vector's largest singular value). -/
def normOut (w : Ar F S128x1) : Ar F S128x1 :=
  Host.divf w (broadcastInDim S128x1 ![] bcast_S_S128x1 (addf
    (Host.sqrt (Host.reduceAdd (mulf w w) (constant S_ .f32 0x00000000#32) reducesTo_S128x1_S_d0_1 h_S_)) (constant S_ .f32 0x2B8CBCCC#32)))

/-- The output layer and the mean over batch and nodes. -/
def outp (h : Ar F S2x2048x128) (w : Ar F S128x1) (b : Ar F S1) : Ar F S1x1 :=
  shapeCast S1x1 (Host.divf (Host.reduceAdd (shapeCast S2x2048
      (addf (Host.dotGeneral dot_S2x2048x128_S128x1_S2x2048x1_2_0_01_1_n_n none h (normOut w))
        (broadcastInDim S2x2048x1 ![0, 1, 2] bcast_S1x1x1_S2x2048x1_0_1_2 (broadcastInDim S1x1x1 ![2] bcast_S1_S1x1x1_2 b)))
      shapeCasts_S2x2048x1_S2x2048) (constant S_ .f32 0x00000000#32) reducesTo_S2x2048_S_d0_1 h_S_) (constant S_ .f32 0x45800000#32)) shapeCasts_S_S1x1

/-! ## The stages read back -/

set_option maxRecDepth 100000

/-- A trip takes one step of the power method for W_ru. -/
theorem body_ru (V : Valuation τ sig (Elt F)) : after body V (Proc.devRef .tc main_v2_4) = stepRu (V (Proc.devRef .tc main_v2_0)) (V (Proc.devRef .tc main_v2_4)) := by
  after_reads_simp
  rfl

/-- A trip takes one step of the power method for W_c. -/
theorem body_c (V : Valuation τ sig (Elt F)) : after body V (Proc.devRef .tc main_v2_5) = stepC (V (Proc.devRef .tc main_v2_1)) (V (Proc.devRef .tc main_v2_5)) := by
  after_reads_simp
  rfl

/-- A buffer the loop does not write keeps its contents through a trip. -/
theorem body_keep (V : Valuation τ sig (Elt F)) (r : Ref sig .tc) (h : r ∉ body_W) : after body V (Proc.devRef .tc r) = V (Proc.devRef .tc r) :=
  after_of_writes_sub body V body_writes h

/-- … and through all trips. -/
theorem atK_keep (r : Ref sig .tc) (h : r ∉ body_W) (h' : r ∉ condOps_W) (c : Dev nD) :
    ∀ k, atK m k c (Proc.devRef .tc r) = atK m 0 c (Proc.devRef .tc r)
  | 0 => rfl
  | k + 1 => by rw [atK_succ, body_keep _ _ h, cond_keep _ _ h', atK_keep r h h' c k]

/-- A buffer the stretch before the loop does not write keeps its contents. -/
theorem pre_keep (V : Valuation τ sig (Elt F)) (r : Ref sig .tc) (h : r ∉ pre_W) : after pre V (Proc.devRef .tc r) = V (Proc.devRef .tc r) :=
  after_of_writes_sub pre V pre_writes h

/-- The loop carries W_ru. -/
theorem entry_W (c : Dev nD) : atK m 0 c (Proc.devRef .tc main_v2_0) = m ((c.tc : Thread nD τ).loc main_arg4) := by
  rw [atK_zero]
  after_reads_simp
  rfl

/-- The loop carries W_c. -/
theorem entry_Wc (c : Dev nD) : atK m 0 c (Proc.devRef .tc main_v2_1) = m ((c.tc : Thread nD τ).loc main_arg6) := by
  rw [atK_zero]
  after_reads_simp
  rfl

/-- The power method starts at the vector of ones. -/
theorem entry_u (c : Dev nD) : atK m 0 c (Proc.devRef .tc main_v2_4) = (oneRu : Ar F S256) := by
  rw [atK_zero]
  after_reads_simp
  rfl

/-- The power method starts at the vector of ones. -/
theorem entry_uc (c : Dev nD) : atK m 0 c (Proc.devRef .tc main_v2_5) = (oneC : Ar F S128) := by
  rw [atK_zero]
  after_reads_simp
  rfl

/-- Before test `k` the carried vector is the `k`-th iterate of the power method for W_ru. -/
theorem atK_u (c : Dev nD) : ∀ k, atK m k c (Proc.devRef .tc main_v2_4) = (stepRu (m ((c.tc : Thread nD τ).loc main_arg4)))^[k] oneRu
  | 0 => entry_u m c
  | k + 1 => by
    rw [atK_succ, body_ru, cond_keep _ _ (by decide), cond_keep _ _ (by decide), atK_u c k, atK_keep m main_v2_0 (by decide) (by decide), entry_W,
      Function.iterate_succ_apply']

/-- … and for W_c. -/
theorem atK_uc (c : Dev nD) : ∀ k, atK m k c (Proc.devRef .tc main_v2_5) = (stepC (m ((c.tc : Thread nD τ).loc main_arg6)))^[k] oneC
  | 0 => entry_uc m c
  | k + 1 => by
    rw [atK_succ, body_c, cond_keep _ _ (by decide), cond_keep _ _ (by decide), atK_uc c k, atK_keep m main_v2_1 (by decide) (by decide), entry_Wc,
      Function.iterate_succ_apply']

/-- The stage leaves the normalised W_ru. -/
theorem nRu_read (V : Valuation τ sig (Elt F)) : after nRu V (Proc.devRef .tc main_v13) = normRu (V (Proc.devRef .tc main_arg4)) (V (Proc.devRef .tc main_v2_4)) := by
  after_reads_simp
  rfl

/-- The stage leaves the normalised W_c. -/
theorem nC_read (V : Valuation τ sig (Elt F)) : after nC V (Proc.devRef .tc main_v24) = normC (V (Proc.devRef .tc main_arg6)) (V (Proc.devRef .tc main_v2_5)) := by
  after_reads_simp
  rfl

/-- The stage leaves the zero state. -/
theorem zer_read (V : Valuation τ sig (Elt F)) : after zer V (Proc.devRef .tc main_v25) = (h0 : Ar F S2x2048x128) := by
  after_reads_simp
  rfl

/-- The stage leaves the gates of step 0. -/
theorem g0_read (V : Valuation τ sig (Elt F)) : after g0b (after g0a V) (Proc.devRef .tc main_v41)
    = gates (x0 (V (Proc.devRef .tc main_arg0))) (V (Proc.devRef .tc main_v25)) (V (Proc.devRef .tc main_arg2)) (V (Proc.devRef .tc main_v13)) (V (Proc.devRef .tc main_arg5)) := by
  after_reads_simp
  rfl

/-- The stage leaves the input of step 0. -/
theorem g0_x (V : Valuation τ sig (Elt F)) : after g0b (after g0a V) (Proc.devRef .tc main_v27) = x0 (V (Proc.devRef .tc main_arg0)) := by
  after_reads_simp
  rfl

set_option maxHeartbeats 1000000 in
/-- The stage leaves the state after step 0. -/
theorem m0_read (V : Valuation τ sig (Elt F)) : after m0 V (Proc.devRef .tc main_v58)
    = mix (V (Proc.devRef .tc main_v41)) (V (Proc.devRef .tc main_v27)) (V (Proc.devRef .tc main_v25)) (V (Proc.devRef .tc main_arg2)) (V (Proc.devRef .tc main_v24)) (V (Proc.devRef .tc main_arg7)) := by
  after_reads_simp
  rfl

/-- The stage leaves the gates of step 1. -/
theorem g1_read (V : Valuation τ sig (Elt F)) : after g1 V (Proc.devRef .tc main_v74)
    = gates (x1 (V (Proc.devRef .tc main_arg0))) (V (Proc.devRef .tc main_v58)) (V (Proc.devRef .tc main_arg2)) (V (Proc.devRef .tc main_v13)) (V (Proc.devRef .tc main_arg5)) := by
  after_reads_simp
  rfl

/-- The stage leaves the input of step 1. -/
theorem g1_x (V : Valuation τ sig (Elt F)) : after g1 V (Proc.devRef .tc main_v60) = x1 (V (Proc.devRef .tc main_arg0)) := by
  after_reads_simp
  rfl

set_option maxHeartbeats 1000000 in
/-- The stage leaves the state after step 1. -/
theorem m1_read (V : Valuation τ sig (Elt F)) : after m1 V (Proc.devRef .tc main_v91)
    = mix (V (Proc.devRef .tc main_v74)) (V (Proc.devRef .tc main_v60)) (V (Proc.devRef .tc main_v58)) (V (Proc.devRef .tc main_arg2)) (V (Proc.devRef .tc main_v24)) (V (Proc.devRef .tc main_arg7)) := by
  after_reads_simp
  rfl

/-- The stage leaves the gates of step 2. -/
theorem g2_read (V : Valuation τ sig (Elt F)) : after g2b (after g2a V) (Proc.devRef .tc main_v107)
    = gates (x2 (V (Proc.devRef .tc main_arg0))) (V (Proc.devRef .tc main_v91)) (V (Proc.devRef .tc main_arg2)) (V (Proc.devRef .tc main_v13)) (V (Proc.devRef .tc main_arg5)) := by
  after_reads_simp
  rfl

/-- The stage leaves the input of step 2. -/
theorem g2_x (V : Valuation τ sig (Elt F)) : after g2b (after g2a V) (Proc.devRef .tc main_v93) = x2 (V (Proc.devRef .tc main_arg0)) := by
  after_reads_simp
  rfl

set_option maxHeartbeats 1000000 in
/-- The stage leaves the state after step 2. -/
theorem m2_read (V : Valuation τ sig (Elt F)) : after m2 V (Proc.devRef .tc main_v124)
    = mix (V (Proc.devRef .tc main_v107)) (V (Proc.devRef .tc main_v93)) (V (Proc.devRef .tc main_v91)) (V (Proc.devRef .tc main_arg2)) (V (Proc.devRef .tc main_v24)) (V (Proc.devRef .tc main_arg7)) := by
  after_reads_simp
  rfl

/-- The stage leaves the gates of step 3. -/
theorem g3_read (V : Valuation τ sig (Elt F)) : after g3 V (Proc.devRef .tc main_v140)
    = gates (x3 (V (Proc.devRef .tc main_arg0))) (V (Proc.devRef .tc main_v124)) (V (Proc.devRef .tc main_arg2)) (V (Proc.devRef .tc main_v13)) (V (Proc.devRef .tc main_arg5)) := by
  after_reads_simp
  rfl

/-- The stage leaves the input of step 3. -/
theorem g3_x (V : Valuation τ sig (Elt F)) : after g3 V (Proc.devRef .tc main_v126) = x3 (V (Proc.devRef .tc main_arg0)) := by
  after_reads_simp
  rfl

set_option maxHeartbeats 1000000 in
/-- The stage leaves the state after step 3. -/
theorem m3_read (V : Valuation τ sig (Elt F)) : after m3b (after m3a V) (Proc.devRef .tc main_v157)
    = mix (V (Proc.devRef .tc main_v140)) (V (Proc.devRef .tc main_v126)) (V (Proc.devRef .tc main_v124)) (V (Proc.devRef .tc main_arg2)) (V (Proc.devRef .tc main_v24)) (V (Proc.devRef .tc main_arg7)) := by
  after_reads_simp
  rfl

/-- The stage leaves the output. -/
theorem fin_read (V : Valuation τ sig (Elt F)) : after fin V (Proc.devRef .tc main_v171)
    = outp (V (Proc.devRef .tc main_v157)) (V (Proc.devRef .tc main_arg8)) (V (Proc.devRef .tc main_arg9)) := by
  after_reads_simp
  rfl

/-! ## The stretch after the loop -/

section After
variable (V : Valuation τ sig (Elt F))

/-- The contents after the stages so far. -/
abbrev V1 : Valuation τ sig (Elt F) := after nRu V
/-- The contents after the stages so far. -/
abbrev V2 : Valuation τ sig (Elt F) := after nC ((V1 V))
/-- The contents after the stages so far. -/
abbrev V3 : Valuation τ sig (Elt F) := after zer ((V2 V))
/-- The contents after the stages so far. -/
abbrev V4 : Valuation τ sig (Elt F) := after g0b (after g0a ((V3 V)))
/-- The contents after the stages so far. -/
abbrev V5 : Valuation τ sig (Elt F) := after m0 ((V4 V))
/-- The contents after the stages so far. -/
abbrev V6 : Valuation τ sig (Elt F) := after g1 ((V5 V))
/-- The contents after the stages so far. -/
abbrev V7 : Valuation τ sig (Elt F) := after m1 ((V6 V))
/-- The contents after the stages so far. -/
abbrev V8 : Valuation τ sig (Elt F) := after g2b (after g2a ((V7 V)))
/-- The contents after the stages so far. -/
abbrev V9 : Valuation τ sig (Elt F) := after m2 ((V8 V))
/-- The contents after the stages so far. -/
abbrev V10 : Valuation τ sig (Elt F) := after g3 ((V9 V))
/-- The contents after the stages so far. -/
abbrev V11 : Valuation τ sig (Elt F) := after m3b (after m3a ((V10 V)))

/-- A buffer the stage does not write keeps its contents. -/
theorem keep1 (r : Ref sig .tc) (h : r ∉ nRu_W) : V1 V (Proc.devRef .tc r) = V (Proc.devRef .tc r) := after_of_writes_sub nRu _ nRu_writes h
/-- A buffer the stage does not write keeps its contents. -/
theorem keep2 (r : Ref sig .tc) (h : r ∉ nC_W) : V2 V (Proc.devRef .tc r) = V1 V (Proc.devRef .tc r) := after_of_writes_sub nC _ nC_writes h
/-- A buffer the stage does not write keeps its contents. -/
theorem keep3 (r : Ref sig .tc) (h : r ∉ zer_W) : V3 V (Proc.devRef .tc r) = V2 V (Proc.devRef .tc r) := after_of_writes_sub zer _ zer_writes h
/-- A buffer the stage does not write keeps its contents. -/
theorem keep4 (r : Ref sig .tc) (h : r ∉ g0a_W) (h' : r ∉ g0b_W) : V4 V (Proc.devRef .tc r) = V3 V (Proc.devRef .tc r) :=
  (after_of_writes_sub g0b _ g0b_writes h').trans (after_of_writes_sub g0a _ g0a_writes h)
/-- A buffer the stage does not write keeps its contents. -/
theorem keep5 (r : Ref sig .tc) (h : r ∉ m0_W) : V5 V (Proc.devRef .tc r) = V4 V (Proc.devRef .tc r) := after_of_writes_sub m0 _ m0_writes h
/-- A buffer the stage does not write keeps its contents. -/
theorem keep6 (r : Ref sig .tc) (h : r ∉ g1_W) : V6 V (Proc.devRef .tc r) = V5 V (Proc.devRef .tc r) := after_of_writes_sub g1 _ g1_writes h
/-- A buffer the stage does not write keeps its contents. -/
theorem keep7 (r : Ref sig .tc) (h : r ∉ m1_W) : V7 V (Proc.devRef .tc r) = V6 V (Proc.devRef .tc r) := after_of_writes_sub m1 _ m1_writes h
/-- A buffer the stage does not write keeps its contents. -/
theorem keep8 (r : Ref sig .tc) (h : r ∉ g2a_W) (h' : r ∉ g2b_W) : V8 V (Proc.devRef .tc r) = V7 V (Proc.devRef .tc r) :=
  (after_of_writes_sub g2b _ g2b_writes h').trans (after_of_writes_sub g2a _ g2a_writes h)
/-- A buffer the stage does not write keeps its contents. -/
theorem keep9 (r : Ref sig .tc) (h : r ∉ m2_W) : V9 V (Proc.devRef .tc r) = V8 V (Proc.devRef .tc r) := after_of_writes_sub m2 _ m2_writes h
/-- A buffer the stage does not write keeps its contents. -/
theorem keep10 (r : Ref sig .tc) (h : r ∉ g3_W) : V10 V (Proc.devRef .tc r) = V9 V (Proc.devRef .tc r) := after_of_writes_sub g3 _ g3_writes h
/-- A buffer the stage does not write keeps its contents. -/
theorem keep11 (r : Ref sig .tc) (h : r ∉ m3a_W) (h' : r ∉ m3b_W) : V11 V (Proc.devRef .tc r) = V10 V (Proc.devRef .tc r) :=
  (after_of_writes_sub m3b _ m3b_writes h').trans (after_of_writes_sub m3a _ m3a_writes h)

/-- The arguments and the loop's two vectors. -/
abbrev args : List (Ref sig .tc) :=
  [main_arg0, main_arg1, main_arg2, main_arg3, main_arg4, main_arg5, main_arg6, main_arg7, main_arg8, main_arg9, main_v2_4, main_v2_5]

/-- The arguments and the vectors of the loop keep their contents through the stages so far. -/
theorem args1 (r : Ref sig .tc) (h : r ∈ args) : V1 V (Proc.devRef .tc r) = V (Proc.devRef .tc r) := keep1 V r ((by decide : ∀ r ∈ args, r ∉ nRu_W) r h)
/-- The arguments and the vectors of the loop keep their contents through the stages so far. -/
theorem args2 (r : Ref sig .tc) (h : r ∈ args) : V2 V (Proc.devRef .tc r) = V (Proc.devRef .tc r) :=
  (keep2 V r ((by decide : ∀ r ∈ args, r ∉ nC_W) r h)).trans (args1 V r h)
/-- The arguments and the vectors of the loop keep their contents through the stages so far. -/
theorem args3 (r : Ref sig .tc) (h : r ∈ args) : V3 V (Proc.devRef .tc r) = V (Proc.devRef .tc r) :=
  (keep3 V r ((by decide : ∀ r ∈ args, r ∉ zer_W) r h)).trans (args2 V r h)
/-- The arguments and the vectors of the loop keep their contents through the stages so far. -/
theorem args4 (r : Ref sig .tc) (h : r ∈ args) : V4 V (Proc.devRef .tc r) = V (Proc.devRef .tc r) :=
  (keep4 V r ((by decide : ∀ r ∈ args, r ∉ g0a_W) r h) ((by decide : ∀ r ∈ args, r ∉ g0b_W) r h)).trans (args3 V r h)
/-- The arguments and the vectors of the loop keep their contents through the stages so far. -/
theorem args5 (r : Ref sig .tc) (h : r ∈ args) : V5 V (Proc.devRef .tc r) = V (Proc.devRef .tc r) :=
  (keep5 V r ((by decide : ∀ r ∈ args, r ∉ m0_W) r h)).trans (args4 V r h)
/-- The arguments and the vectors of the loop keep their contents through the stages so far. -/
theorem args6 (r : Ref sig .tc) (h : r ∈ args) : V6 V (Proc.devRef .tc r) = V (Proc.devRef .tc r) :=
  (keep6 V r ((by decide : ∀ r ∈ args, r ∉ g1_W) r h)).trans (args5 V r h)
/-- The arguments and the vectors of the loop keep their contents through the stages so far. -/
theorem args7 (r : Ref sig .tc) (h : r ∈ args) : V7 V (Proc.devRef .tc r) = V (Proc.devRef .tc r) :=
  (keep7 V r ((by decide : ∀ r ∈ args, r ∉ m1_W) r h)).trans (args6 V r h)
/-- The arguments and the vectors of the loop keep their contents through the stages so far. -/
theorem args8 (r : Ref sig .tc) (h : r ∈ args) : V8 V (Proc.devRef .tc r) = V (Proc.devRef .tc r) :=
  (keep8 V r ((by decide : ∀ r ∈ args, r ∉ g2a_W) r h) ((by decide : ∀ r ∈ args, r ∉ g2b_W) r h)).trans (args7 V r h)
/-- The arguments and the vectors of the loop keep their contents through the stages so far. -/
theorem args9 (r : Ref sig .tc) (h : r ∈ args) : V9 V (Proc.devRef .tc r) = V (Proc.devRef .tc r) :=
  (keep9 V r ((by decide : ∀ r ∈ args, r ∉ m2_W) r h)).trans (args8 V r h)
/-- The arguments and the vectors of the loop keep their contents through the stages so far. -/
theorem args10 (r : Ref sig .tc) (h : r ∈ args) : V10 V (Proc.devRef .tc r) = V (Proc.devRef .tc r) :=
  (keep10 V r ((by decide : ∀ r ∈ args, r ∉ g3_W) r h)).trans (args9 V r h)
/-- The arguments and the vectors of the loop keep their contents through the stages so far. -/
theorem args11 (r : Ref sig .tc) (h : r ∈ args) : V11 V (Proc.devRef .tc r) = V (Proc.devRef .tc r) :=
  (keep11 V r ((by decide : ∀ r ∈ args, r ∉ m3a_W) r h) ((by decide : ∀ r ∈ args, r ∉ m3b_W) r h)).trans (args10 V r h)
/-- The arguments and the vectors of the loop keep their contents through the stages so far. -/
theorem args12 (r : Ref sig .tc) (h : r ∈ args) : after fin (V11 V) (Proc.devRef .tc r) = V (Proc.devRef .tc r) :=
  (after_of_writes_sub fin _ fin_writes ((by decide : ∀ r ∈ args, r ∉ fin_W) r h)).trans (args11 V r h)

/-- The stretch after the loop, stage after stage. -/
theorem post_eq : afterL postI V = after fin (V11 V) := by
  simp only [afterL_cons, afterL_nil, post0, post1, post2, post3, after_append]

/-- The value of the whole stretch after the loop at given arguments and given vectors. -/
def value (X : Ar F S2x4x2048x128) (A : Ar F S2048x2048) (Wru : Ar F S512x256) (bru : Ar F S256) (Wc : Ar F S512x128) (bc : Ar F S128)
    (w : Ar F S128x1) (b : Ar F S1) (u : Ar F S256) (uc : Ar F S128) : Ar F S1x1 :=
  outp (cell (x3 X) (cell (x2 X) (cell (x1 X) (cell (x0 X) h0 A (normRu Wru u) bru (normC Wc uc) bc)
    A (normRu Wru u) bru (normC Wc uc) bc) A (normRu Wru u) bru (normC Wc uc) bc) A (normRu Wru u) bru (normC Wc uc) bc) w b

/-- The result's buffer after the stretches that follow the loop. -/
theorem post_value : afterL postI V (Proc.devRef .tc main_v171)
    = value (V (Proc.devRef .tc main_arg0)) (V (Proc.devRef .tc main_arg2)) (V (Proc.devRef .tc main_arg4)) (V (Proc.devRef .tc main_arg5))
      (V (Proc.devRef .tc main_arg6)) (V (Proc.devRef .tc main_arg7)) (V (Proc.devRef .tc main_arg8)) (V (Proc.devRef .tc main_arg9))
      (V (Proc.devRef .tc main_v2_4)) (V (Proc.devRef .tc main_v2_5)) := by
  have w1 : V1 V (Proc.devRef .tc main_v13) = normRu (V (Proc.devRef .tc main_arg4)) (V (Proc.devRef .tc main_v2_4)) := nRu_read V
  have d2 : V2 V (Proc.devRef .tc main_v24) = normC (V (Proc.devRef .tc main_arg6)) (V (Proc.devRef .tc main_v2_5)) := by
    rw [V2, nC_read, args1 V main_arg6 (by decide), args1 V main_v2_5 (by decide)]
  have w2 := (keep2 V main_v13 (by decide)).trans w1
  have w3 := (keep3 V main_v13 (by decide)).trans w2
  have d3 := (keep3 V main_v24 (by decide)).trans d2
  have w4 := (keep4 V main_v13 (by decide) (by decide)).trans w3
  have d4 := (keep4 V main_v24 (by decide) (by decide)).trans d3
  have w5 := (keep5 V main_v13 (by decide)).trans w4
  have d5 := (keep5 V main_v24 (by decide)).trans d4
  have w6 := (keep6 V main_v13 (by decide)).trans w5
  have d6 := (keep6 V main_v24 (by decide)).trans d5
  have w7 := (keep7 V main_v13 (by decide)).trans w6
  have d7 := (keep7 V main_v24 (by decide)).trans d6
  have w8 := (keep8 V main_v13 (by decide) (by decide)).trans w7
  have d8 := (keep8 V main_v24 (by decide) (by decide)).trans d7
  have w9 := (keep9 V main_v13 (by decide)).trans w8
  have d9 := (keep9 V main_v24 (by decide)).trans d8
  have w10 := (keep10 V main_v13 (by decide)).trans w9
  have d10 := (keep10 V main_v24 (by decide)).trans d9
  have w11 := (keep11 V main_v13 (by decide) (by decide)).trans w10
  have d11 := (keep11 V main_v24 (by decide) (by decide)).trans d10
  have h3 : V3 V (Proc.devRef .tc main_v25) = (h0 : Ar F S2x2048x128) := zer_read (V2 V)
  have g0 : V4 V (Proc.devRef .tc main_v41) = gates (x0 (V (Proc.devRef .tc main_arg0))) (V3 V (Proc.devRef .tc main_v25)) (V (Proc.devRef .tc main_arg2))
      (normRu (V (Proc.devRef .tc main_arg4)) (V (Proc.devRef .tc main_v2_4))) (V (Proc.devRef .tc main_arg5)) := by
    rw [V4, g0_read, w3, args3 V main_arg0 (by decide), args3 V main_arg2 (by decide), args3 V main_arg5 (by decide)]
  have x0' : V4 V (Proc.devRef .tc main_v27) = x0 (V (Proc.devRef .tc main_arg0)) := by
    rw [V4, g0_x, args3 V main_arg0 (by decide)]
  have k0 : V4 V (Proc.devRef .tc main_v25) = V3 V (Proc.devRef .tc main_v25) := keep4 V main_v25 (by decide) (by decide)
  have h5 : V5 V (Proc.devRef .tc main_v58) = cell (x0 (V (Proc.devRef .tc main_arg0))) (V3 V (Proc.devRef .tc main_v25)) (V (Proc.devRef .tc main_arg2))
      (normRu (V (Proc.devRef .tc main_arg4)) (V (Proc.devRef .tc main_v2_4))) (V (Proc.devRef .tc main_arg5))
      (normC (V (Proc.devRef .tc main_arg6)) (V (Proc.devRef .tc main_v2_5))) (V (Proc.devRef .tc main_arg7)) := by
    rw [V5, m0_read, g0, x0', k0, d4, args4 V main_arg2 (by decide), args4 V main_arg7 (by decide), cell]
  have g1 : V6 V (Proc.devRef .tc main_v74) = gates (x1 (V (Proc.devRef .tc main_arg0))) (V5 V (Proc.devRef .tc main_v58)) (V (Proc.devRef .tc main_arg2))
      (normRu (V (Proc.devRef .tc main_arg4)) (V (Proc.devRef .tc main_v2_4))) (V (Proc.devRef .tc main_arg5)) := by
    rw [V6, g1_read, w5, args5 V main_arg0 (by decide), args5 V main_arg2 (by decide), args5 V main_arg5 (by decide)]
  have x1' : V6 V (Proc.devRef .tc main_v60) = x1 (V (Proc.devRef .tc main_arg0)) := by
    rw [V6, g1_x, args5 V main_arg0 (by decide)]
  have k1 : V6 V (Proc.devRef .tc main_v58) = V5 V (Proc.devRef .tc main_v58) := keep6 V main_v58 (by decide)
  have h7 : V7 V (Proc.devRef .tc main_v91) = cell (x1 (V (Proc.devRef .tc main_arg0))) (V5 V (Proc.devRef .tc main_v58)) (V (Proc.devRef .tc main_arg2))
      (normRu (V (Proc.devRef .tc main_arg4)) (V (Proc.devRef .tc main_v2_4))) (V (Proc.devRef .tc main_arg5))
      (normC (V (Proc.devRef .tc main_arg6)) (V (Proc.devRef .tc main_v2_5))) (V (Proc.devRef .tc main_arg7)) := by
    rw [V7, m1_read, g1, x1', k1, d6, args6 V main_arg2 (by decide), args6 V main_arg7 (by decide), cell]
  have g2 : V8 V (Proc.devRef .tc main_v107) = gates (x2 (V (Proc.devRef .tc main_arg0))) (V7 V (Proc.devRef .tc main_v91)) (V (Proc.devRef .tc main_arg2))
      (normRu (V (Proc.devRef .tc main_arg4)) (V (Proc.devRef .tc main_v2_4))) (V (Proc.devRef .tc main_arg5)) := by
    rw [V8, g2_read, w7, args7 V main_arg0 (by decide), args7 V main_arg2 (by decide), args7 V main_arg5 (by decide)]
  have x2' : V8 V (Proc.devRef .tc main_v93) = x2 (V (Proc.devRef .tc main_arg0)) := by
    rw [V8, g2_x, args7 V main_arg0 (by decide)]
  have k2 : V8 V (Proc.devRef .tc main_v91) = V7 V (Proc.devRef .tc main_v91) := keep8 V main_v91 (by decide) (by decide)
  have h9 : V9 V (Proc.devRef .tc main_v124) = cell (x2 (V (Proc.devRef .tc main_arg0))) (V7 V (Proc.devRef .tc main_v91)) (V (Proc.devRef .tc main_arg2))
      (normRu (V (Proc.devRef .tc main_arg4)) (V (Proc.devRef .tc main_v2_4))) (V (Proc.devRef .tc main_arg5))
      (normC (V (Proc.devRef .tc main_arg6)) (V (Proc.devRef .tc main_v2_5))) (V (Proc.devRef .tc main_arg7)) := by
    rw [V9, m2_read, g2, x2', k2, d8, args8 V main_arg2 (by decide), args8 V main_arg7 (by decide), cell]
  have g3 : V10 V (Proc.devRef .tc main_v140) = gates (x3 (V (Proc.devRef .tc main_arg0))) (V9 V (Proc.devRef .tc main_v124)) (V (Proc.devRef .tc main_arg2))
      (normRu (V (Proc.devRef .tc main_arg4)) (V (Proc.devRef .tc main_v2_4))) (V (Proc.devRef .tc main_arg5)) := by
    rw [V10, g3_read, w9, args9 V main_arg0 (by decide), args9 V main_arg2 (by decide), args9 V main_arg5 (by decide)]
  have x3' : V10 V (Proc.devRef .tc main_v126) = x3 (V (Proc.devRef .tc main_arg0)) := by
    rw [V10, g3_x, args9 V main_arg0 (by decide)]
  have k3 : V10 V (Proc.devRef .tc main_v124) = V9 V (Proc.devRef .tc main_v124) := keep10 V main_v124 (by decide)
  have h11 : V11 V (Proc.devRef .tc main_v157) = cell (x3 (V (Proc.devRef .tc main_arg0))) (V9 V (Proc.devRef .tc main_v124)) (V (Proc.devRef .tc main_arg2))
      (normRu (V (Proc.devRef .tc main_arg4)) (V (Proc.devRef .tc main_v2_4))) (V (Proc.devRef .tc main_arg5))
      (normC (V (Proc.devRef .tc main_arg6)) (V (Proc.devRef .tc main_v2_5))) (V (Proc.devRef .tc main_arg7)) := by
    rw [V11, m3_read, g3, x3', k3, d10, args10 V main_arg2 (by decide), args10 V main_arg7 (by decide), cell]
  rw [post_eq, fin_read, args11 V main_arg8 (by decide), args11 V main_arg9 (by decide), h11, h9, h7, h5, h3, value]

end After

/-- The buffers at the end, from the launch. -/
theorem final_arg (c : Dev nD) (r : Ref sig .tc) (h : r ∈ args) (h1 : r ∉ pre_W) (h2 : r ∉ body_W) (h3 : r ∉ condOps_W) :
    finalContents condOps preI bodyI postI 8192 m c (Proc.devRef .tc r) = m ((c.tc : Thread nD τ).loc r) := by
  show afterL postI (after condOps (atK m 8192 c)) (Proc.devRef .tc r) = _
  rw [post_eq, args12 _ r h, cond_keep _ r h3, atK_keep m r h2 h3 c, atK_zero, pre_keep _ r h1]

/-- An argument before the last test is as launched. -/
theorem entry_arg (c : Dev nD) (r : Ref sig .tc) (h1 : r ∉ pre_W) (h2 : r ∉ body_W) (h3 : r ∉ condOps_W) :
    after condOps (atK m 8192 c) (Proc.devRef .tc r) = m ((c.tc : Thread nD τ).loc r) := by
  rw [cond_keep _ r h3, atK_keep m r h2 h3 c, atK_zero, pre_keep _ r h1]

/-- The reference's result of a device's arguments: the recurrence and the output with the gate weights normalised by
    the power method's vectors after 8192 steps from ones. -/
def result (c : Dev nD) : Ar F S1x1 :=
  value (m ((c.tc : Thread nD τ).loc main_arg0)) (m ((c.tc : Thread nD τ).loc main_arg2)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))
    ((stepRu (m ((c.tc : Thread nD τ).loc main_arg4)))^[8192] oneRu) ((stepC (m ((c.tc : Thread nD τ).loc main_arg6)))^[8192] oneC)

/-- The result's buffer at the end of the run. -/
theorem final_result (c : Dev nD) : finalContents condOps preI bodyI postI 8192 m c (Proc.devRef .tc main_v171) = result m c := by
  show afterL postI (after condOps (atK m 8192 c)) (Proc.devRef .tc main_v171) = _
  rw [post_value, cond_keep _ main_v2_4 (by decide), cond_keep _ main_v2_5 (by decide), atK_u m c 8192, atK_uc m c 8192,
    entry_arg m c main_arg0 (by decide) (by decide) (by decide), entry_arg m c main_arg2 (by decide) (by decide) (by decide),
    entry_arg m c main_arg4 (by decide) (by decide) (by decide), entry_arg m c main_arg5 (by decide) (by decide) (by decide),
    entry_arg m c main_arg6 (by decide) (by decide) (by decide), entry_arg m c main_arg7 (by decide) (by decide) (by decide),
    entry_arg m c main_arg8 (by decide) (by decide) (by decide), entry_arg m c main_arg9 (by decide) (by decide) (by decide)]
  rfl

/-- The run of the reference: the result, and every argument as it was. -/
theorem run : θ_run (defs (F := F)) (onTc (τ := τ) (main (F := F))) ⟨m, fun _ => 0, ρ⟩ fun r => ∀ c : Dev nD,
      r.2.mem ((c.tc : Thread nD τ).loc main_v171) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v171 rfl).trans (final_result m c),
      (h c main_arg0 rfl).trans (final_arg m c _ (by decide) (by decide) (by decide) (by decide)),
      (h c main_arg1 rfl).trans (final_arg m c _ (by decide) (by decide) (by decide) (by decide)),
      (h c main_arg2 rfl).trans (final_arg m c _ (by decide) (by decide) (by decide) (by decide)),
      (h c main_arg3 rfl).trans (final_arg m c _ (by decide) (by decide) (by decide) (by decide)),
      (h c main_arg4 rfl).trans (final_arg m c _ (by decide) (by decide) (by decide) (by decide)),
      (h c main_arg5 rfl).trans (final_arg m c _ (by decide) (by decide) (by decide) (by decide)),
      (h c main_arg6 rfl).trans (final_arg m c _ (by decide) (by decide) (by decide) (by decide)),
      (h c main_arg7 rfl).trans (final_arg m c _ (by decide) (by decide) (by decide) (by decide)),
      (h c main_arg8 rfl).trans (final_arg m c _ (by decide) (by decide) (by decide) (by decide)),
      (h c main_arg9 rfl).trans (final_arg m c _ (by decide) (by decide) (by decide) (by decide))⟩) (run_fold m ρ)

end Cert.RefRun

end
-- ==== Proof.KernelVal.lean ====
/-
  What the kernel computes, as functions of the blocks its body loads: the spectral normalisation of a weight (`normK256`,
  `normK128`: thirteen squarings of the Gram matrix, each after a division by the trace), a step of the recurrence for one
  batch row (`first` at the hidden state zero, `step` after it), the output layer (`outK`), and the pieces of the body read
  as these functions composed.
-/
module

public import proofs.«01_k».proof.Proof.Gen.KernelIdeal.Frame

@[expose] public section

set_option maxRecDepth 100000

noncomputable section

namespace Cert.KVal

open Cert.KernelIdeal Cert.KernelIdeal.Gen
open Idealize.ShloMosaic Idealize.ShloMosaic.TcCoe

variable {F : FTy → Type} [FloatOps F]

/-! ## The spectral normalisation of W_ru -/

/-- The Gram matrix `Wᵀ W`. -/
def gram256 (W : FVec F S512x256 .f32) : FVec F S256x256 .f32 :=
  matmul dot_S512x256_S512x256_S256x256_0_0_1_1_n_n (some .fp32) W W (constant S256x256 .f32 0x00000000#32)

/-- The matrix with everything off the diagonal replaced by zero, as a stack of one. -/
def diag256 (G : FVec F S256x256 .f32) : FVec F S1x256x256 .f32 :=
  shapeCast S1x256x256 (select (cmpi .eq (iota .tc S256x256 32 [0] iota_S256x256_d0_w32) (iota .tc S256x256 32 [1] iota_S256x256_d1_w32))
    G (broadcast S256x256 (Scalar.ofBits .f32 0x00000000#32))) shapeCasts_S256x256_S1x256x256

/-- The sum of a stack of one matrix. -/
def sum256 (D : FVec F S1x256x256 .f32) : F .f32 :=
  extractAt ![0, 0, 0] (shapeCast S1x1x1 (multiReduction .add [1, 2] S1 D 0x00000000#32 reduces_S1x256x256_S1 (.inl rfl) rfl)
    shapeCasts_S1_S1x1x1) inpos_S1x1x1_p0_0_0

/-- The square of the matrix over the number `t`. -/
def square256 (t : F .f32) (G : FVec F S256x256 .f32) : FVec F S256x256 .f32 :=
  matmul dot_S256x256_S256x256_S256x256_1_0_0_1_n_n (some .fp32) (divf G (broadcast S256x256 t)) (divf G (broadcast S256x256 t))
    (constant S256x256 .f32 0x00000000#32)

/-- One squaring: the square of the matrix over its trace. -/
def next256 (G : FVec F S256x256 .f32) : FVec F S256x256 .f32 := square256 (sum256 (diag256 G)) G

/-- The row sums, as a column. -/
def rows256 (G : FVec F S256x256 .f32) : FVec F S256x1 .f32 :=
  shapeCast S256x1 (multiReduction .add [1] S256 G 0x00000000#32 reduces_S256x256_S256 (.inl rfl) rfl) shapeCasts_S256_S256x1

/-- The sum of a column. -/
def total256 (v : FVec F S256x1 .f32) : F .f32 :=
  extractAt ![0, 0, 0] (shapeCast S1x1x1 (multiReduction .add [1, 2] S1 (shapeCast S1x256x1 v shapeCasts_S256x1_S1x256x1)
    0x00000000#32 reduces_S1x256x1_S1 (.inl rfl) rfl) shapeCasts_S1_S1x1x1) inpos_S1x1x1_p0_0_0

/-- Rayleigh's quotient `vᵀ G v / vᵀ v`. -/
def rayleigh256 (G : FVec F S256x256 .f32) (v : FVec F S256x1 .f32) : F .f32 :=
  Scalar.divf (total256 (mulf (rows256 (mulf G (broadcastTo S256x256 (shapeCast S1x256 v shapeCasts_S256x1_S1x256) broadcasts_S1x256_S256x256))) v))
    (total256 (mulf v v))

/-- A weight over the square root of `l`, kept off zero. -/
def over256 (W : FVec F S512x256 .f32) (l : F .f32) : FVec F S512x256 .f32 :=
  divf W (broadcast S512x256 (Scalar.addf (Scalar.sqrt l) (Scalar.ofBits .f32 0x2B8CBCCC#32)))

/-- The kernel's normalised W_ru. -/
def normK256 (W : FVec F S512x256 .f32) : FVec F S512x256 .f32 :=
  over256 W (rayleigh256 (gram256 W) (rows256 (next256^[13] (gram256 W))))

/-- The kernel's first squarings, from the Gram matrix. -/
theorem pay8_eq (W : FVec F S512x256 .f32) : k0_pay8 W = next256 (next256 (next256 (gram256 W))) := rfl
/-- The diagonal the kernel takes for the next trace. -/
theorem pay9_eq (W : FVec F S512x256 .f32) : k0_pay9 W = diag256 (k0_pay8 W) := rfl
/-- Six more squarings. -/
theorem pay10_eq (G : FVec F S256x256 .f32) : k0_pay10 k0_pay6 k0_pay7 G (diag256 G)
    = next256 (next256 (next256 (next256 (next256 (next256 G))))) := rfl
/-- The diagonal the kernel takes for the next trace. -/
theorem pay11_eq (G : FVec F S256x256 .f32) (D : FVec F S1x256x256 .f32) : k0_pay11 k0_pay6 k0_pay7 G D
    = diag256 (k0_pay10 k0_pay6 k0_pay7 G D) := rfl
/-- The last four squarings and Rayleigh's quotient. -/
theorem pay12_eq (W : FVec F S512x256 .f32) (G : FVec F S256x256 .f32) : k0_pay12 (k0_pay5 W) k0_pay6 k0_pay7 G (diag256 G)
    = rayleigh256 (gram256 W) (rows256 (next256 (next256 (next256 (next256 G))))) := rfl
/-- The division of the weight by the norm. -/
theorem pay13_eq (W : FVec F S512x256 .f32) (l : F .f32) : k0_pay13 W l = over256 W l := rfl

/-- The kernel's pieces make `normK256`. -/
theorem normRu_eq (W : FVec F S512x256 .f32) :
    k0_pay13 W (k0_pay12 (k0_pay5 W) k0_pay6 k0_pay7 (k0_pay10 k0_pay6 k0_pay7 (k0_pay8 W) (k0_pay9 W))
      (k0_pay11 k0_pay6 k0_pay7 (k0_pay8 W) (k0_pay9 W))) = normK256 W := by
  rw [pay11_eq, pay9_eq, pay12_eq, pay10_eq, pay8_eq, pay13_eq]
  rfl

/-! ## The spectral normalisation of W_c -/

/-- The Gram matrix `Wᵀ W`. -/
def gram128 (W : FVec F S512x128 .f32) : FVec F S128x128 .f32 :=
  matmul dot_S512x128_S512x128_S128x128_0_0_1_1_n_n (some .fp32) W W (constant S128x128 .f32 0x00000000#32)

/-- The matrix with everything off the diagonal replaced by zero, as a stack of one. -/
def diag128 (G : FVec F S128x128 .f32) : FVec F S1x128x128 .f32 :=
  shapeCast S1x128x128 (select (cmpi .eq (iota .tc S128x128 32 [0] iota_S128x128_d0_w32) (iota .tc S128x128 32 [1] iota_S128x128_d1_w32))
    G (broadcast S128x128 (Scalar.ofBits .f32 0x00000000#32))) shapeCasts_S128x128_S1x128x128

/-- The sum of a stack of one matrix. -/
def sum128 (D : FVec F S1x128x128 .f32) : F .f32 :=
  extractAt ![0, 0, 0] (shapeCast S1x1x1 (multiReduction .add [1, 2] S1 D 0x00000000#32 reduces_S1x128x128_S1 (.inl rfl) rfl)
    shapeCasts_S1_S1x1x1) inpos_S1x1x1_p0_0_0

/-- The square of the matrix over the number `t`. -/
def square128 (t : F .f32) (G : FVec F S128x128 .f32) : FVec F S128x128 .f32 :=
  matmul dot_S128x128_S128x128_S128x128_1_0_0_1_n_n (some .fp32) (divf G (broadcast S128x128 t)) (divf G (broadcast S128x128 t))
    (constant S128x128 .f32 0x00000000#32)

/-- One squaring: the square of the matrix over its trace. -/
def next128 (G : FVec F S128x128 .f32) : FVec F S128x128 .f32 := square128 (sum128 (diag128 G)) G

/-- The row sums, as a column. -/
def rows128 (G : FVec F S128x128 .f32) : FVec F S128x1 .f32 :=
  shapeCast S128x1 (multiReduction .add [1] S128 G 0x00000000#32 reduces_S128x128_S128 (.inl rfl) rfl) shapeCasts_S128_S128x1

/-- The sum of a column. -/
def total128 (v : FVec F S128x1 .f32) : F .f32 :=
  extractAt ![0, 0, 0] (shapeCast S1x1x1 (multiReduction .add [1, 2] S1 (shapeCast S1x128x1 v shapeCasts_S128x1_S1x128x1)
    0x00000000#32 reduces_S1x128x1_S1 (.inl rfl) rfl) shapeCasts_S1_S1x1x1) inpos_S1x1x1_p0_0_0

/-- Rayleigh's quotient `vᵀ G v / vᵀ v`. -/
def rayleigh128 (G : FVec F S128x128 .f32) (v : FVec F S128x1 .f32) : F .f32 :=
  Scalar.divf (total128 (mulf (rows128 (mulf G (broadcastTo S128x128 (shapeCast S1x128 v shapeCasts_S128x1_S1x128) broadcasts_S1x128_S128x128))) v))
    (total128 (mulf v v))

/-- A weight over the square root of `l`, kept off zero. -/
def over128 (W : FVec F S512x128 .f32) (l : F .f32) : FVec F S512x128 .f32 :=
  divf W (broadcast S512x128 (Scalar.addf (Scalar.sqrt l) (Scalar.ofBits .f32 0x2B8CBCCC#32)))

/-- The kernel's normalised W_c. -/
def normK128 (W : FVec F S512x128 .f32) : FVec F S512x128 .f32 :=
  over128 W (rayleigh128 (gram128 W) (rows128 (next128^[13] (gram128 W))))

/-- The kernel's first squarings, from the Gram matrix. -/
theorem pay17_eq (W : FVec F S512x128 .f32) : k0_pay17 W = next128 (next128 (next128 (next128 (gram128 W)))) := rfl
/-- The diagonal the kernel takes for the next trace. -/
theorem pay18_eq (W : FVec F S512x128 .f32) : k0_pay18 W = diag128 (k0_pay17 W) := rfl
/-- Six more squarings. -/
theorem pay19_eq (G : FVec F S128x128 .f32) : k0_pay19 k0_pay15 k0_pay16 G (diag128 G)
    = next128 (next128 (next128 (next128 (next128 (next128 G))))) := rfl
/-- The diagonal the kernel takes for the next trace. -/
theorem pay20_eq (G : FVec F S128x128 .f32) (D : FVec F S1x128x128 .f32) : k0_pay20 k0_pay15 k0_pay16 G D
    = diag128 (k0_pay19 k0_pay15 k0_pay16 G D) := rfl
/-- The last three squarings, Rayleigh's quotient and the division of the weight by the norm. -/
theorem pay21_eq (W : FVec F S512x128 .f32) (G : FVec F S128x128 .f32) : k0_pay21 W (k0_pay14 W) k0_pay15 k0_pay16 G (diag128 G)
    = over128 W (rayleigh128 (gram128 W) (rows128 (next128 (next128 (next128 G))))) := rfl

/-- The kernel's pieces make `normK128`. -/
theorem normC_eq (W : FVec F S512x128 .f32) :
    k0_pay21 W (k0_pay14 W) k0_pay15 k0_pay16 (k0_pay19 k0_pay15 k0_pay16 (k0_pay17 W) (k0_pay18 W))
      (k0_pay20 k0_pay15 k0_pay16 (k0_pay17 W) (k0_pay18 W)) = normK128 W := by
  rw [pay20_eq, pay18_eq, pay21_eq, pay19_eq, pay17_eq]
  rfl

/-! ## A step of the recurrence, one batch row -/

/-- A batch row's node features at one time. -/
def rowOf (x : FVec F S1x1x2048x128 .f32) : FVec F S2048x128 .f32 := shapeCast S2048x128 x shapeCasts_S1x1x2048x128_S2048x128

/-- `[x, h]` side by side. -/
def pairK (x h : FVec F S2048x128 .f32) : FVec F S2048x256 .f32 :=
  concatenate S2048x256 1 [⟨S2048x128, x⟩, ⟨S2048x128, h⟩] concatenates_S2048x128_S2048x128_S2048x256_d1

/-- `A [x, h]`. -/
def diffuse (A : FVec F S2048x2048 .f32) (x h : FVec F S2048x128 .f32) : FVec F S2048x256 .f32 :=
  matmul dot_S2048x2048_S2048x256_S2048x256_1_0_0_1_n_n none A (pairK x h) (constant S2048x256 .f32 0x00000000#32)

/-- Both gates. -/
def gatesK (A : FVec F S2048x2048 .f32) (br : FVec F S1x256 .f32) (Wr : FVec F S512x256 .f32) (x h : FVec F S2048x128 .f32) : FVec F S2048x256 .f32 :=
  logistic (addf (matmul dot_S2048x512_S512x256_S2048x256_1_0_0_1_n_n none
    (concatenate S2048x512 1 [⟨S2048x256, pairK x h⟩, ⟨S2048x256, diffuse A x h⟩] concatenates_S2048x256_S2048x256_S2048x512_d1) Wr
      (constant S2048x256 .f32 0x00000000#32)) (broadcastTo S2048x256 br broadcasts_S1x256_S2048x256))

/-- The reset state `r h`. -/
def resetK (g : FVec F S2048x256 .f32) (h : FVec F S2048x128 .f32) : FVec F S2048x128 .f32 :=
  mulf (extractStridedSlice S2048x128 ![0, 0] g slices_S2048x256_o0_0_S2048x128) h

/-- The candidate of the reset state `q`, its diffused input's first half taken from `A [x, h]`. -/
def candK (A : FVec F S2048x2048 .f32) (bc : FVec F S1x128 .f32) (Wc : FVec F S512x128 .f32) (x q : FVec F S2048x128 .f32)
    (Ai : FVec F S2048x256 .f32) : FVec F S2048x128 .f32 :=
  tanh (addf (matmul dot_S2048x512_S512x128_S2048x128_1_0_0_1_n_n none
    (concatenate S2048x512 1 [⟨S2048x128, x⟩, ⟨S2048x128, q⟩, ⟨S2048x128, extractStridedSlice S2048x128 ![0, 0] Ai slices_S2048x256_o0_0_S2048x128⟩,
      ⟨S2048x128, matmul dot_S2048x2048_S2048x128_S2048x128_1_0_0_1_n_n none A q (constant S2048x128 .f32 0x00000000#32)⟩]
      concatenates_S2048x128_S2048x128_S2048x128_S2048x128_S2048x512_d1) Wc (constant S2048x128 .f32 0x00000000#32))
    (broadcastTo S2048x128 bc broadcasts_S1x128_S2048x128))

/-- `u h + (1 - u) c`. -/
def mixK (u h c : FVec F S2048x128 .f32) : FVec F S2048x128 .f32 :=
  addf (mulf u h) (mulf (subf (broadcast S2048x128 (Scalar.ofBits .f32 0x3F800000#32)) u) c)

/-- The update gate's half of the gates. -/
def updK (g : FVec F S2048x256 .f32) : FVec F S2048x128 .f32 := extractStridedSlice S2048x128 ![0, 128] g slices_S2048x256_o0_128_S2048x128

/-- A step of the recurrence. -/
def step (A : FVec F S2048x2048 .f32) (br : FVec F S1x256 .f32) (bc : FVec F S1x128 .f32) (Wr : FVec F S512x256 .f32) (Wc : FVec F S512x128 .f32)
    (x h : FVec F S2048x128 .f32) : FVec F S2048x128 .f32 :=
  mixK (updK (gatesK A br Wr x h)) h (candK A bc Wc x (resetK (gatesK A br Wr x h) h) (diffuse A x h))

/-- The weights' rows that meet `x` and `A x`. -/
def halfRu (W : FVec F S512x256 .f32) : FVec F S256x256 .f32 :=
  concatenate S256x256 0 [⟨S128x256, extractStridedSlice S128x256 ![0, 0] W slices_S512x256_o0_0_S128x256⟩,
    ⟨S128x256, extractStridedSlice S128x256 ![256, 0] W slices_S512x256_o256_0_S128x256⟩] concatenates_S128x256_S128x256_S256x256_d0
/-- The same rows of W_c. -/
def halfC (W : FVec F S512x128 .f32) : FVec F S256x128 .f32 :=
  concatenate S256x128 0 [⟨S128x128, extractStridedSlice S128x128 ![0, 0] W slices_S512x128_o0_0_S128x128⟩,
    ⟨S128x128, extractStridedSlice S128x128 ![256, 0] W slices_S512x128_o256_0_S128x128⟩] concatenates_S128x128_S128x128_S256x128_d0

/-- `[x, A x]`. -/
def inputK (A : FVec F S2048x2048 .f32) (x : FVec F S2048x128 .f32) : FVec F S2048x256 .f32 :=
  concatenate S2048x256 1 [⟨S2048x128, x⟩, ⟨S2048x128, matmul dot_S2048x2048_S2048x128_S2048x128_1_0_0_1_n_n none A x
    (constant S2048x128 .f32 0x00000000#32)⟩] concatenates_S2048x128_S2048x128_S2048x256_d1

/-- The first step, from the hidden state zero: the weights' rows that meet the state are left out. -/
def first (A : FVec F S2048x2048 .f32) (br : FVec F S1x256 .f32) (bc : FVec F S1x128 .f32) (Wr : FVec F S512x256 .f32) (Wc : FVec F S512x128 .f32)
    (x : FVec F S2048x128 .f32) : FVec F S2048x128 .f32 :=
  mulf (subf (broadcast S2048x128 (Scalar.ofBits .f32 0x3F800000#32))
      (updK (logistic (addf (matmul dot_S2048x256_S256x256_S2048x256_1_0_0_1_n_n none (inputK A x) (halfRu Wr) (constant S2048x256 .f32 0x00000000#32))
        (broadcastTo S2048x256 br broadcasts_S1x256_S2048x256)))))
    (tanh (addf (matmul dot_S2048x256_S256x128_S2048x128_1_0_0_1_n_n none (inputK A x) (halfC Wc) (constant S2048x128 .f32 0x00000000#32))
      (broadcastTo S2048x128 bc broadcasts_S1x128_S2048x128)))

/-- Four steps. -/
def states (A : FVec F S2048x2048 .f32) (br : FVec F S1x256 .f32) (bc : FVec F S1x128 .f32) (Wr : FVec F S512x256 .f32) (Wc : FVec F S512x128 .f32)
    (x0 x1 x2 x3 : FVec F S2048x128 .f32) : FVec F S2048x128 .f32 :=
  step A br bc Wr Wc x3 (step A br bc Wr Wc x2 (step A br bc Wr Wc x1 (first A br bc Wr Wc x0)))

/-! ## The output layer -/

/-- The sum of a state over the nodes. -/
def nodesK (h : FVec F S2048x128 .f32) : FVec F S1x128 .f32 :=
  shapeCast S1x128 (multiReduction .add [0] S128 h 0x00000000#32 reduces_S2048x128_S128 (.inl rfl) rfl) shapeCasts_S128_S1x128

/-- The sum of a row. -/
def rowSum (v : FVec F S1x128 .f32) : F .f32 :=
  extractAt ![0, 0, 0] (shapeCast S1x1x1 (multiReduction .add [1, 2] S1 (shapeCast S1x1x128 v shapeCasts_S1x128_S1x1x128)
    0x00000000#32 reduces_S1x1x128_S1 (.inl rfl) rfl) shapeCasts_S1_S1x1x1) inpos_S1x1x1_p0_0_0

/-- W_out over its length. -/
def normOutK (w : FVec F S1x128 .f32) : FVec F S1x128 .f32 :=
  divf w (broadcast S1x128 (Scalar.addf (Scalar.sqrt (rowSum (mulf w w))) (Scalar.ofBits .f32 0x2B8CBCCC#32)))

/-- The output layer applied to the mean of the two batch rows' states over the nodes. -/
def outK (h h' : FVec F S2048x128 .f32) (w : FVec F S1x128 .f32) (b : FVec F S1x1 .f32) : FVec F S1x1 .f32 :=
  broadcast S1x1 (Scalar.addf (Scalar.divf (rowSum (mulf (addf (addf (broadcast S1x128 (Scalar.ofBits .f32 0x00000000#32)) (nodesK h)) (nodesK h')) (normOutK w)))
    (Scalar.ofBits .f32 0x45800000#32)) (extractAt ![0, 0] b inpos_S1x1_p0_0))

/-! ## The body's result -/

section Body
variable (A : FVec F S2048x2048 .f32) (br : FVec F S1x256 .f32) (bc : FVec F S1x128 .f32) (Wr : FVec F S512x256 .f32) (Wc : FVec F S512x128 .f32)
  (a0 a1 a2 a3 : FVec F S1x1x2048x128 .f32)

/-- Batch row 0 after the first step. -/
theorem pay27_eq : k0_pay27 A br bc Wr Wc a0 = first A br bc Wr Wc (rowOf a0) := rfl

/-- Batch row 0 after three steps. -/
theorem pay34_eq : k0_pay34 A br bc Wr Wc (k0_pay27 A br bc Wr Wc a0) (k0_pay32 A br bc Wr Wc a0 a1) (k0_pay33 A br bc Wr Wc a0 a1) a2
    = step A br bc Wr Wc (rowOf a2) (step A br bc Wr Wc (rowOf a1) (first A br bc Wr Wc (rowOf a0))) := rfl

/-- Batch row 0's fourth step and its sum over the nodes. -/
theorem pay40_eq (z : FVec F S1x128 .f32) (h : FVec F S2048x128 .f32) :
    k0_pay40 A bc Wc z h (rowOf a3) (diffuse A (rowOf a3) h) (gatesK A br Wr (rowOf a3) h)
      (extractStridedSlice S2048x128 ![0, 0] (gatesK A br Wr (rowOf a3) h) slices_S2048x256_o0_0_S2048x128)
    = addf z (nodesK (step A br bc Wr Wc (rowOf a3) h)) := rfl

/-- Batch row 1 after three steps, from its state after the first. -/
theorem pay46_eq (h : FVec F S2048x128 .f32) :
    k0_pay46 A br bc Wr Wc h (rowOf a1) (diffuse A (rowOf a1) h) (gatesK A br Wr (rowOf a1) h) a2
    = step A br bc Wr Wc (rowOf a2) (step A br bc Wr Wc (rowOf a1) h) := rfl

/-- Batch row 1's fourth step and the output layer. -/
theorem pay1_eq (w : FVec F S1x128 .f32) (z : FVec F S1x128 .f32) (h : FVec F S2048x128 .f32) (b : FVec F S1x1 .f32) :
    k0_pay1 A br bc Wr Wc w z h (rowOf a3) (pairK (rowOf a3) h) (diffuse A (rowOf a3) h) b
    = broadcast S1x1 (Scalar.addf (Scalar.divf (rowSum (mulf (addf z (nodesK (step A br bc Wr Wc (rowOf a3) h))) w))
        (Scalar.ofBits .f32 0x45800000#32)) (extractAt ![0, 0] b inpos_S1x1_p0_0)) := rfl

end Body

end Cert.KVal

end
-- ==== Proof.KernelRun.lean ====
/-
  The kernel's run: the array it writes, as the functions of Proof/KernelVal.lean of the arguments.
-/
module

public import proofs.«01_k».proof.Proof.KernelVal
public import proofs.«01_k».proof.Proof.Gen.KernelIdeal.Value
public import Idealize.ShloMosaic.Lib.Pipeline.ValueKit
public import Idealize.ShloMosaic.Lib.StableHlo.RunRead

@[expose] public section

set_option maxRecDepth 100000

noncomputable section

namespace Cert.KVal

open Cert.KernelIdeal Cert.KernelIdeal.Gen
open Idealize.ShloMosaic Idealize.ShloMosaic.TcCoe Idealize.ShloMosaic.Tactic
open Idealize.ShloMosaic.StableHlo

variable {F : FTy → Type} [FloatOps F]

/-- What the body leaves in the output's buffer, of the blocks as it loads them. -/
def result (x00 x01 x02 x03 x10 x11 x12 x13 : FVec F S1x1x2048x128 .f32) (A : FVec F S2048x2048 .f32) (Wru : FVec F S512x256 .f32) (br : FVec F S1x256 .f32)
    (Wcd : FVec F S512x128 .f32) (bc : FVec F S1x128 .f32) (w : FVec F S1x128 .f32) (b : FVec F S1x1 .f32) : FVec F S1x1 .f32 :=
  outK (states A br bc (normK256 Wru) (normK128 Wcd) (rowOf x00) (rowOf x01) (rowOf x02) (rowOf x03))
    (states A br bc (normK256 Wru) (normK128 Wcd) (rowOf x10) (rowOf x11) (rowOf x12) (rowOf x13)) w b

section Pieces
variable (A : FVec F S2048x2048 .f32) (br : FVec F S1x256 .f32) (bc : FVec F S1x128 .f32) (Wr : FVec F S512x256 .f32) (Wc : FVec F S512x128 .f32)
  (h u : FVec F S2048x128 .f32) (i : FVec F S2048x512 .f32) (a0 a1 a2 a3 : FVec F S1x1x2048x128 .f32)
  (g g' : FVec F S2048x256 .f32) (x : FVec F S2048x128 .f32)

/-- `A [x, h]` at batch row 0's fourth step. -/
theorem pay37_eq : k0_pay37 A br bc Wr Wc h u i a2 a3 = diffuse A (rowOf a3) (k0_pay34 A br bc Wr Wc h u i a2) := rfl
/-- Both gates at batch row 0's fourth step. -/
theorem pay38_eq : k0_pay38 A br bc Wr Wc h u i a2 a3 = gatesK A br Wr (rowOf a3) (k0_pay34 A br bc Wr Wc h u i a2) := rfl
/-- The reset gate at batch row 0's fourth step. -/
theorem pay39_eq : k0_pay39 A br bc Wr Wc h u i a2 a3
    = extractStridedSlice S2048x128 ![0, 0] (gatesK A br Wr (rowOf a3) (k0_pay34 A br bc Wr Wc h u i a2)) slices_S2048x256_o0_0_S2048x128 := rfl
/-- `A [x, h]` at batch row 1's second step. -/
theorem pay44_eq : k0_pay44 A br bc (k0_pay24 Wr) (k0_pay25 Wc) a0 a1 = diffuse A (rowOf a1) (first A br bc Wr Wc (rowOf a0)) := rfl
/-- Both gates at batch row 1's second step. -/
theorem pay45_eq : k0_pay45 A br bc Wr (k0_pay24 Wr) (k0_pay25 Wc) a0 a1 = gatesK A br Wr (rowOf a1) (first A br bc Wr Wc (rowOf a0)) := rfl
/-- Batch row 1 after the first step. -/
theorem pay41_eq' : k0_pay41 A br bc (k0_pay24 Wr) (k0_pay25 Wc) a0 = first A br bc Wr Wc (rowOf a0) := rfl
/-- `[x, h]` at batch row 1's fourth step. -/
theorem pay48_eq : k0_pay48 A br bc Wr Wc h x g g' a2 a3 = pairK (rowOf a3) (k0_pay46 A br bc Wr Wc h x g g' a2) := rfl
/-- `A [x, h]` at batch row 1's fourth step. -/
theorem pay49_eq : k0_pay49 A br bc Wr Wc h x g g' a2 a3 = diffuse A (rowOf a3) (k0_pay46 A br bc Wr Wc h x g g' a2) := rfl
/-- The normalised W_out. -/
theorem pay23_eq (w : FVec F S1x128 .f32) : k0_pay23 w (k0_pay22 w) = normOutK w := rfl
/-- The sum over the batch starts at zero. -/
theorem pay26_eq : k0_pay26 (F := F) = broadcast S1x128 (Scalar.ofBits .f32 0x00000000#32) := rfl

end Pieces

section Out
variable (x0 : Vec F S2x4x2048x128 .f32) (x1 : Vec F S2048x2048 .f32) (x2 : Vec F S512x256 .f32) (x3 : Vec F S1x256 .f32) (x4 : Vec F S512x128 .f32)
  (x5 : Vec F S1x128 .f32) (x6 : Vec F S1x128 .f32) (x7 : Vec F S1x1 .f32)

/-- The body's copy of a small argument is its block. -/
theorem p50 : k0_pay50 x0 x1 x2 x3 x4 x5 x6 x7 = x3 := by
  unfold k0_pay50 k0_pay2
  rw [View.ld_unit_lit _ _ (by decide)]
  exact shapeCast_self _ _
/-- The body's copy of a small argument is its block. -/
theorem p51 : k0_pay51 x0 x1 x2 x3 x4 x5 x6 x7 = x5 := by
  unfold k0_pay51 k0_pay3
  rw [View.ld_unit_lit _ _ (by decide)]
  exact shapeCast_self _ _
/-- The body's copy of a small argument is its block. -/
theorem p52 : k0_pay52 x0 x1 x2 x3 x4 x5 x6 x7 = x6 := by
  unfold k0_pay52 k0_pay4
  rw [View.ld_unit_lit _ _ (by decide)]
  exact shapeCast_self _ _
/-- The body's normalised W_ru. -/
theorem p57 : k0_pay57 x0 x1 x2 x3 x4 x5 x6 x7 = normK256 x2 := by
  unfold k0_pay57 k0_pay53 k0_pay54 k0_pay55 k0_pay56
  rw [normRu_eq, View.ld_unit_lit _ _ (by decide)]
/-- The body's normalised W_c. -/
theorem p62 : k0_pay62 x0 x1 x2 x3 x4 x5 x6 x7 = normK128 x4 := by
  unfold k0_pay62 k0_pay58 k0_pay59 k0_pay60 k0_pay61
  rw [normC_eq, View.ld_unit_lit _ _ (by decide)]

/-- The buffer the body leaves, of the input windows' blocks. -/
theorem out_eq : out0_8 x0 x1 x2 x3 x4 x5 x6 x7
    = result (View.ld x0 r0_5) (View.ld x0 r0_6) (View.ld x0 r0_7) (View.ld x0 r0_8) (View.ld x0 r0_9) (View.ld x0 r0_10) (View.ld x0 r0_11) (View.ld x0 r0_12)
        x1 x2 x3 x4 x5 x6 x7 := by
  unfold out0_8
  rw [View.canon_cons_unit_lit _ _ _ (by decide)]
  unfold k0_pay65 k0_pay66 k0_pay67 k0_pay68 k0_pay69 k0_pay70 k0_pay71 k0_pay63 k0_pay64
  rw [p50, p51, p52, p57, p62, View.ld_unit_lit _ x1 (by decide), View.ld_unit_lit _ x7 (by decide)]
  unfold result
  generalize normK256 x2 = Wr
  generalize normK128 x4 = Wc
  generalize View.ld x0 r0_5 = a0
  generalize View.ld x0 r0_6 = a1
  generalize View.ld x0 r0_7 = a2
  generalize View.ld x0 r0_8 = a3
  generalize View.ld x0 r0_9 = b0
  generalize View.ld x0 r0_10 = b1
  generalize View.ld x0 r0_11 = b2
  generalize View.ld x0 r0_12 = b3
  simp only [pay37_eq, pay38_eq, pay39_eq, pay34_eq, pay44_eq, pay45_eq, pay41_eq', pay48_eq, pay49_eq, pay23_eq, pay26_eq,
    show k0_pay35 a3 = rowOf a3 from rfl, show k0_pay42 b1 = rowOf b1 from rfl, show k0_pay47 b3 = rowOf b3 from rfl, pay40_eq, pay46_eq, pay1_eq]
  rfl

end Out

section Run
variable (m : (ℓ : Loc nD τ sig) → Buf (Elt F) ℓ) (ρ : Dev nD → PrngReg) (c : Dev nD)

/-- What @main's operations before the launch leave in the four buffers they write. -/
theorem V_v0 : (V m c main_v0 : FVec F S1x256 .f32) = shapeCast S1x256 (m ((c : Thread nD τ).loc main_arg5) : FVec F S256 .f32) shapeCasts_S256_S1x256 := by
  unfold Gen.V
  after_reads_simp
  rfl
/-- The candidate's bias as a row. -/
theorem V_v1 : (V m c main_v1 : FVec F S1x128 .f32) = shapeCast S1x128 (m ((c : Thread nD τ).loc main_arg7) : FVec F S128 .f32) shapeCasts_S128_S1x128 := by
  unfold Gen.V
  after_reads_simp
  rfl
/-- W_out as a row. -/
theorem V_v2 : (V m c main_v2 : FVec F S1x128 .f32) = transpose S1x128 [1, 0] (m ((c : Thread nD τ).loc main_arg8) : FVec F S128x1 .f32) transposes_S128x1_S1x128_1_0 := by
  unfold Gen.V
  after_reads_simp
/-- The output's bias as a 1x1 array. -/
theorem V_v3 : (V m c main_v3 : FVec F S1x1 .f32) = shapeCast S1x1 (m ((c : Thread nD τ).loc main_arg9) : FVec F S1 .f32) shapeCasts_S1_S1x1 := by
  unfold Gen.V
  after_reads_simp
  rfl

/-! Each input window's block is its whole array. -/

/-- The input window's block is its whole array. -/
theorem blk0 (t : Fin cfg0.N) : (iblk m c 0 t : FVec F S2x4x2048x128 .f32) = V m c main_arg0 := by
  funext i
  blk_simp [iblk]
  congr 1
  funext a
  exact Fin.ext (Pipeline.Window.rect_emb_val_of_index_zero _ _ _ ((by decide +kernel : ∀ (t : Fin cfg0.N) a, win0_0.index t a = 0) t a) _)
/-- The input window's block is its whole array. -/
theorem blk1 (t : Fin cfg0.N) : (iblk m c 1 t : FVec F S2048x2048 .f32) = V m c main_arg2 := by
  funext i
  blk_simp [iblk]
  congr 1
  funext a
  exact Fin.ext (Pipeline.Window.rect_emb_val_of_index_zero _ _ _ ((by decide +kernel : ∀ (t : Fin cfg0.N) a, win0_1.index t a = 0) t a) _)
/-- The input window's block is its whole array. -/
theorem blk2 (t : Fin cfg0.N) : (iblk m c 2 t : FVec F S512x256 .f32) = V m c main_arg4 := by
  funext i
  blk_simp [iblk]
  congr 1
  funext a
  exact Fin.ext (Pipeline.Window.rect_emb_val_of_index_zero _ _ _ ((by decide +kernel : ∀ (t : Fin cfg0.N) a, win0_2.index t a = 0) t a) _)
/-- The input window's block is its whole array. -/
theorem blk3 (t : Fin cfg0.N) : (iblk m c 3 t : FVec F S1x256 .f32) = V m c main_v0 := by
  funext i
  blk_simp [iblk]
  congr 1
  funext a
  exact Fin.ext (Pipeline.Window.rect_emb_val_of_index_zero _ _ _ ((by decide +kernel : ∀ (t : Fin cfg0.N) a, win0_3.index t a = 0) t a) _)
/-- The input window's block is its whole array. -/
theorem blk4 (t : Fin cfg0.N) : (iblk m c 4 t : FVec F S512x128 .f32) = V m c main_arg6 := by
  funext i
  blk_simp [iblk]
  congr 1
  funext a
  exact Fin.ext (Pipeline.Window.rect_emb_val_of_index_zero _ _ _ ((by decide +kernel : ∀ (t : Fin cfg0.N) a, win0_4.index t a = 0) t a) _)
/-- The input window's block is its whole array. -/
theorem blk5 (t : Fin cfg0.N) : (iblk m c 5 t : FVec F S1x128 .f32) = V m c main_v1 := by
  funext i
  blk_simp [iblk]
  congr 1
  funext a
  exact Fin.ext (Pipeline.Window.rect_emb_val_of_index_zero _ _ _ ((by decide +kernel : ∀ (t : Fin cfg0.N) a, win0_5.index t a = 0) t a) _)
/-- The input window's block is its whole array. -/
theorem blk6 (t : Fin cfg0.N) : (iblk m c 6 t : FVec F S1x128 .f32) = V m c main_v2 := by
  funext i
  blk_simp [iblk]
  congr 1
  funext a
  exact Fin.ext (Pipeline.Window.rect_emb_val_of_index_zero _ _ _ ((by decide +kernel : ∀ (t : Fin cfg0.N) a, win0_6.index t a = 0) t a) _)
/-- The input window's block is its whole array. -/
theorem blk7 (t : Fin cfg0.N) : (iblk m c 7 t : FVec F S1x1 .f32) = V m c main_v3 := by
  funext i
  blk_simp [iblk]
  congr 1
  funext a
  exact Fin.ext (Pipeline.Window.rect_emb_val_of_index_zero _ _ _ ((by decide +kernel : ∀ (t : Fin cfg0.N) a, win0_7.index t a = 0) t a) _)

/-- The kernel's result of its arguments. -/
def kernelValue (m : (ℓ : Loc nD τ sig) → Buf (Elt F) ℓ) (c : Dev nD) : FVec F S1x1 .f32 :=
  let X : Vec F S2x4x2048x128 .f32 := m ((c : Thread nD τ).loc main_arg0)
  result (View.ld X r0_5) (View.ld X r0_6) (View.ld X r0_7) (View.ld X r0_8) (View.ld X r0_9) (View.ld X r0_10) (View.ld X r0_11) (View.ld X r0_12)
    (m ((c : Thread nD τ).loc main_arg2) : FVec F S2048x2048 .f32) (m ((c : Thread nD τ).loc main_arg4) : FVec F S512x256 .f32)
    (shapeCast S1x256 (m ((c : Thread nD τ).loc main_arg5) : FVec F S256 .f32) shapeCasts_S256_S1x256)
    (m ((c : Thread nD τ).loc main_arg6) : FVec F S512x128 .f32)
    (shapeCast S1x128 (m ((c : Thread nD τ).loc main_arg7) : FVec F S128 .f32) shapeCasts_S128_S1x128)
    (transpose S1x128 [1, 0] (m ((c : Thread nD τ).loc main_arg8) : FVec F S128x1 .f32) transposes_S128x1_S1x128_1_0)
    (shapeCast S1x1 (m ((c : Thread nD τ).loc main_arg9) : FVec F S1 .f32) shapeCasts_S1_S1x1)

/-- The result buffer after the launch holds `kernelValue`. -/
theorem arr_eq : (dats m 0 c).arrAt 8 cfg0.N = kernelValue m c := by
  refine (dats m 0 c).arrAt_eq_of_covers 8 _ (by decide +kernel) fun t hf y => ?_
  blk_simp
  rw [after0_8, out_eq, blk0, blk1, blk2, blk3, blk4, blk5, blk6, blk7, V_v0, V_v1, V_v2, V_v3, V_main_arg0, V_main_arg2, V_main_arg4, V_main_arg6]
  unfold kernelValue
  congr 1
  funext a
  exact Fin.ext (Pipeline.Window.rect_emb_val_of_index_zero _ _ _ ((by decide +kernel : ∀ (t : Fin cfg0.N) a, win0_8.index t a = 0) t a) _).symm

end Run

end Cert.KVal

end
-- ==== Proof.Recur.lean ====
/-
  A step of the recurrence is the same in the kernel and in the reference, batch row by batch row.
-/
module

public import proofs.«01_k».proof.Proof.KernelVal
public import proofs.«01_k».proof.Proof.RefRun
public import Idealize.ShloMosaic.Lib.Pointwise

@[expose] public section

set_option maxRecDepth 32768

noncomputable section

namespace Cert.Recur

open Idealize.ShloMosaic Idealize.ShloMosaic.TcCoe
open Cert.KVal Cert.RefRun
open Cert.KernelIdeal Cert.KernelIdeal.Gen

/-- A batch row of a batched array. -/
def slab {r d : ℕ} (b : Fin 2) (X : FVec Ideal ⟨3, ![2, r, d]⟩ .f32) : FVec Ideal ⟨2, ![r, d]⟩ .f32 := fun i => X (ix3 b (i 0) (i 1))

/-- The entry at node `n` and feature `k`. -/
theorem slab_apply {r d : ℕ} (b : Fin 2) (X : FVec Ideal ⟨3, ![2, r, d]⟩ .f32) (n : Fin r) (k : Fin d) : slab b X (ix2 n k) = X (ix3 b n k) := rfl

/-- A sum over 512 whose second and fourth quarters are zero. -/
theorem sum_two (f : Fin 512 → EReal) (h2 : ∀ y : Fin 512, 128 ≤ (y : ℕ) → (y : ℕ) < 256 → f y = 0) (h4 : ∀ y : Fin 512, 384 ≤ (y : ℕ) → f y = 0) :
    ∑ y, f y = ∑ k : Fin 128, f ⟨k, by omega⟩ + ∑ k : Fin 128, f ⟨256 + k, by omega⟩ := by
  have e := Fin.sum_univ_add (a := 256) (b := 256) f
  rw [Fin.sum_univ_add (a := 128) (b := 128), Fin.sum_univ_add (a := 128) (b := 128)] at e
  rw [Finset.sum_eq_zero (s := Finset.univ) (f := fun i : Fin 128 => f (Fin.castAdd 256 (Fin.natAdd 128 i)))
      (fun i _ => h2 _ (by simp) (by simp; omega)),
    Finset.sum_eq_zero (s := Finset.univ) (f := fun i : Fin 128 => f (Fin.natAdd 256 (Fin.natAdd 128 i)))
      (fun i _ => h4 _ (by simp)), add_zero, add_zero] at e
  exact e

/-- The gates' sum when the state is zero: the rows of the weight that meet `x` and `A x` are left. -/
theorem gate_first (x : Fin 2048 → Fin 128 → EReal) (A : Fin 2048 × Fin 2048 → EReal) (W : Fin 512 → EReal) (n : Fin 2048) :
    ∑ y : Fin 512, (if h : (y : ℕ) < 256 then if h1 : (y : ℕ) < 128 then x n ⟨y, h1⟩ else 0
      else ∑ z, A (n, z) * if h1 : (y : ℕ) - 256 < 128 then x z ⟨y - 256, h1⟩ else 0) * W y
    = ∑ k : Fin 128, x n k * W ⟨k, by omega⟩ + ∑ k : Fin 128, (∑ z, A (n, z) * x z k) * W ⟨256 + k, by omega⟩ := by
  rw [sum_two]
  · congr 1
  · intro y h1 h2
    rw [dif_pos h2, dif_neg (by omega), zero_mul]
  · intro y h1
    rw [dif_neg (by omega)]
    simp only [dif_neg (show ¬ (y : ℕ) - 256 < 128 by omega), mul_zero, Finset.sum_const_zero, zero_mul]

/-- The candidate's sum when the state is zero. -/
theorem cand_first (x : Fin 2048 → Fin 128 → EReal) (A : Fin 2048 × Fin 2048 → EReal) (W : Fin 512 → EReal) (n : Fin 2048) :
    ∑ y : Fin 512, (if h : (y : ℕ) < 128 then x n ⟨y, h⟩
      else if h : (y : ℕ) - 128 < 128 then 0
      else if h : (y : ℕ) - 128 - 128 < 128 then ∑ z, A (n, z) * (if h1 : (y : ℕ) - 128 - 128 < 128 then x z ⟨y - 128 - 128, h1⟩ else 0)
      else ∑ z, A (n, z) * 0) * W y
    = ∑ k : Fin 128, x n k * W ⟨k, by omega⟩ + ∑ k : Fin 128, (∑ z, A (n, z) * x z k) * W ⟨256 + k, by omega⟩ := by
  rw [sum_two]
  · congr 1
  · intro y h1 h2
    rw [dif_neg (by omega), dif_pos (by omega), zero_mul]
  · intro y h1
    rw [dif_neg (by omega), dif_neg (by omega), dif_neg (by omega)]
    simp only [mul_zero, Finset.sum_const_zero, zero_mul]

variable (A : FVec Ideal S2048x2048 .f32) (Wr : FVec Ideal S512x256 .f32) (Wc : FVec Ideal S512x128 .f32) (br : FVec Ideal S256 .f32) (bc : FVec Ideal S128 .f32)
  (x h q : FVec Ideal ReferenceIdeal.S2x2048x128 .f32) (b : Fin 2)

/-- Both gates. -/
theorem gates_eq : slab b (gates (F := Ideal) x h A Wr br) = gatesK A (shapeCast S1x256 br shapeCasts_S256_S1x256) Wr (slab b x) (slab b h) := by
  funext i
  obtain ⟨n, k, rfl⟩ : ∃ a b, i = ix2 a b := ⟨i 0, i 1, (eq_ix2 i)⟩
  rw [slab_apply]
  pointwise [gates, gatesK, dconv, pair, pairK, diffuse, slab]
  refine congrArg (fun s => Ideal.div 1 (1 + Ideal.exp (-(s + br (ix1 k))))) (Finset.sum_congr rfl fun y _ => ?_)
  congr 1
  split_ifs <;> first | rfl | exact Finset.sum_congr rfl fun z _ => mul_comm _ _

/-- The candidate of a reset state. -/
theorem cand_eq : slab b (cand (F := Ideal) x q A Wc bc)
    = candK A (shapeCast S1x128 bc shapeCasts_S128_S1x128) Wc (slab b x) (slab b q) (diffuse A (slab b x) (slab b h)) := by
  funext i
  obtain ⟨n, k, rfl⟩ : ∃ a b, i = ix2 a b := ⟨i 0, i 1, (eq_ix2 i)⟩
  rw [slab_apply]
  pointwise [cand, candK, dconv, pair, pairK, diffuse, slab]
  refine congrArg (fun s => Ideal.tanh (s + bc (ix1 k))) (Finset.sum_congr rfl fun y _ => ?_)
  congr 1
  by_cases h1 : (y : ℕ) < 256
  · by_cases h2 : (y : ℕ) < 128
    · rw [dif_pos h1, dif_pos h2, dif_pos h2]
    · rw [dif_pos h1, dif_neg h2, dif_neg h2, dif_pos (by omega)]
  · rw [dif_neg h1, dif_neg (by omega), dif_neg (by omega)]
    by_cases h2 : (y : ℕ) - 256 < 128
    · rw [dif_pos (by omega)]
      refine Finset.sum_congr rfl fun z _ => ?_
      rw [dif_pos h2, dif_pos (by omega)]
      exact mul_comm _ _
    · rw [dif_neg (by omega)]
      refine Finset.sum_congr rfl fun z _ => ?_
      rw [dif_neg h2]
      exact mul_comm _ _

/-- The reset state. -/
theorem reset_eq (g : FVec Ideal ReferenceIdeal.S2x2048x256 .f32) :
    slab b (mulf (extractStridedSlice ReferenceIdeal.S2x2048x128 ![0, 0, 0] g ReferenceIdeal.Gen.slices_S2x2048x256_S2x2048x128_0_0_0) h) = resetK (slab b g) (slab b h) := by
  funext i
  obtain ⟨n, k, rfl⟩ : ∃ a b, i = ix2 a b := ⟨i 0, i 1, (eq_ix2 i)⟩
  rw [slab_apply]
  pointwise [resetK, slab]

/-- The new state of gates and a candidate. -/
theorem blend_eq (g : FVec Ideal ReferenceIdeal.S2x2048x256 .f32) (c : FVec Ideal ReferenceIdeal.S2x2048x128 .f32) :
    slab b (addf (mulf (extractStridedSlice ReferenceIdeal.S2x2048x128 ![0, 0, 128] g ReferenceIdeal.Gen.slices_S2x2048x256_S2x2048x128_0_0_128) h)
      (mulf (subf (broadcastInDim ReferenceIdeal.S2x2048x128 ![] ReferenceIdeal.Gen.bcast_S_S2x2048x128 (constant ReferenceIdeal.S_ .f32 0x3F800000#32))
        (extractStridedSlice ReferenceIdeal.S2x2048x128 ![0, 0, 128] g ReferenceIdeal.Gen.slices_S2x2048x256_S2x2048x128_0_0_128)) c))
    = mixK (updK (slab b g)) (slab b h) (slab b c) := by
  funext i
  obtain ⟨n, k, rfl⟩ : ∃ a b, i = ix2 a b := ⟨i 0, i 1, (eq_ix2 i)⟩
  rw [slab_apply]
  pointwise [mixK, updK, slab]

/-- A step of the recurrence. -/
theorem cell_eq : slab b (cell (F := Ideal) x h A Wr br Wc bc)
    = step A (shapeCast S1x256 br shapeCasts_S256_S1x256) (shapeCast S1x128 bc shapeCasts_S128_S1x128) Wr Wc (slab b x) (slab b h) := by
  unfold cell mix step
  rw [blend_eq, gates_eq, cand_eq A Wc bc x h, reset_eq, gates_eq]

/-- The first step, from the state zero. -/
theorem cell_zero : slab b (cell (F := Ideal) x h0 A Wr br Wc bc)
    = first A (shapeCast S1x256 br shapeCasts_S256_S1x256) (shapeCast S1x128 bc shapeCasts_S128_S1x128) Wr Wc (slab b x) := by
  rw [cell_eq]
  have hz : slab b (h0 (F := Ideal)) = fun _ => 0 := by
    funext i
    obtain ⟨n, k, rfl⟩ : ∃ a b, i = ix2 a b := ⟨i 0, i 1, (eq_ix2 i)⟩
    rw [slab_apply]
    pointwise [h0]
  rw [hz]
  generalize slab b x = x
  have hr : ∀ g : FVec Ideal S2048x256 .f32, resetK g (fun _ => 0) = fun _ => 0 := by
    intro g
    funext i
    obtain ⟨n, k, rfl⟩ : ∃ a b, i = ix2 a b := ⟨i 0, i 1, (eq_ix2 i)⟩
    pointwise [resetK]
    exact mul_zero _
  unfold step
  rw [hr]
  funext i
  obtain ⟨n, k, rfl⟩ : ∃ a b, i = ix2 a b := ⟨i 0, i 1, (eq_ix2 i)⟩
  pointwise [mixK, first, updK, gatesK, candK, inputK, halfRu, halfC, pairK, diffuse]
  rw [mul_zero, zero_add]
  exact congrArg₂ (fun s t => (1 - Ideal.logistic (s + br (ix1 ⟨128 + ↑k, by omega⟩))) * Ideal.tanh (t + bc (ix1 k)))
    (gate_first (fun n k => x (ix2 n k)) (fun n => A (ix2 n.1 n.2)) (fun y => Wr (ix2 y ⟨128 + ↑k, by omega⟩)) n)
    (cand_first (fun n k => x (ix2 n k)) (fun n => A (ix2 n.1 n.2)) (fun y => Wc (ix2 y k)) n)

end Cert.Recur

end
-- ==== Proof.Spectral.lean ====
/-
  The spectral norm by the power method, two ways, over the extended reals. The kernel squares the Gram matrix thirteen
  times, dividing by the trace before each squaring, and takes Rayleigh's quotient at its row sums; the reference takes
  8192 steps `u ↦ Wᵀ W u / (‖Wᵀ W u‖ + ε)` from the vector of ones and then `‖W u‖ / ‖u‖`. The weight divided by the one
  is the weight divided by the other (`normalised_eq`), whatever the weight holds.
-/
module

public import Idealize.ShloMosaic.PureOps.Ideal
public import Mathlib.Data.Matrix.Mul
public import Mathlib.LinearAlgebra.Matrix.Trace
public import Mathlib.Algebra.BigOperators.Ring.Finset
public import Mathlib.Tactic.FieldSimp
public import Mathlib.Tactic.Positivity
public import Mathlib.Tactic.Ring
public import Mathlib.Tactic.Push

@[expose] public section

noncomputable section

namespace Cert.Spectral

open Idealize.ShloMosaic Matrix

variable {ι κ : Type} [Fintype ι] [Fintype κ] [DecidableEq κ]

/-! ## The two computations -/

/-- The Gram matrix `Wᵀ W`. -/
def gram (W : ι → κ → EReal) (j k : κ) : EReal := ∑ i, W i j * W i k

/-- The sum of the diagonal. -/
def tr (G : κ → κ → EReal) : EReal := ∑ j, G j j

/-- The square of the matrix over its trace. -/
def next (G : κ → κ → EReal) (j k : κ) : EReal := ∑ l, Ideal.div (G j l) (tr G) * Ideal.div (G l k) (tr G)

/-- The row sums. -/
def rows (G : κ → κ → EReal) (j : κ) : EReal := ∑ k, G j k

/-- Rayleigh's quotient. -/
def rayleigh (G : κ → κ → EReal) (v : κ → EReal) : EReal :=
  Ideal.div (∑ j, (∑ k, G j k * v k) * v j) (∑ j, v j * v j)

/-- The spectral norm by repeated squaring. -/
def sigmaK (W : ι → κ → EReal) : EReal := Ideal.sqrt (rayleigh (gram W) (rows (next^[13] (gram W))))

/-- `W u`. -/
def app (W : ι → κ → EReal) (u : κ → EReal) (i : ι) : EReal := ∑ k, W i k * u k

/-- `Wᵀ W u`. -/
def back (W : ι → κ → EReal) (u : κ → EReal) (j : κ) : EReal := ∑ i, W i j * app W u i

/-- One step of the power method. -/
def power (ε : EReal) (W : ι → κ → EReal) (u : κ → EReal) (j : κ) : EReal :=
  Ideal.div (back W u j) (Ideal.sqrt (∑ k, back W u k * back W u k) + ε)

/-- `‖W u‖ / ‖u‖`. -/
def stretch (W : ι → κ → EReal) (u : κ → EReal) : EReal :=
  Ideal.div (Ideal.sqrt (∑ i, app W u i * app W u i)) (Ideal.sqrt (∑ k, u k * u k))

/-- The spectral norm by the power method. -/
def sigmaR (ε : EReal) (W : ι → κ → EReal) : EReal := stretch W ((power ε W)^[8192] fun _ => 1)

/-! ## Small facts about the operations -/

/-- A finite sum of real numbers is the same sum among the extended reals. -/
theorem coe_sum {α : Type} (s : Finset α) (f : α → ℝ) : ((∑ i ∈ s, f i : ℝ) : EReal) = ∑ i ∈ s, (f i : EReal) :=
  map_sum (⟨⟨Real.toEReal, EReal.coe_zero⟩, EReal.coe_add⟩ : ℝ →+ EReal) f s

/-- Zero over zero is `⊥`. -/
theorem div_zero_zero : Ideal.div 0 0 = ⊥ := by simp [Ideal.div]
/-- Anything over `⊤` is zero. -/
theorem div_top (x : EReal) : Ideal.div x ⊤ = 0 := by simp [Ideal.div]
/-- Anything over `⊥` is zero. -/
theorem div_bot (x : EReal) : Ideal.div x ⊥ = 0 := by simp [Ideal.div]
/-- Zero over anything but zero is zero. -/
theorem zero_div {y : EReal} (h : y ≠ 0) : Ideal.div 0 y = 0 := by simp [Ideal.div, h]
/-- The quotient of real numbers. -/
theorem div_real (x : ℝ) {y : ℝ} (h : y ≠ 0) : Ideal.div (x : EReal) (y : EReal) = ((x / y : ℝ) : EReal) := by
  rw [Ideal.div_coe h, ← EReal.coe_mul, mul_one_div]
/-- The square root of a real number that is not negative. -/
theorem sqrt_real {x : ℝ} (h : 0 ≤ x) : Ideal.sqrt (x : EReal) = ((Real.sqrt x : ℝ) : EReal) := by
  rw [Ideal.sqrt_coe, if_neg (not_lt.mpr h)]
/-- The square root of zero. -/
theorem sqrt_zero : Ideal.sqrt 0 = 0 := by
  rw [← EReal.coe_zero, sqrt_real le_rfl, Real.sqrt_zero]

/-- A square root, with a positive number added, is not zero. -/
theorem sqrt_add_ne_zero (z : EReal) {ε : ℝ} (hε : 0 < ε) : Ideal.sqrt z + (ε : EReal) ≠ 0 := by
  induction z using EReal.rec with
  | bot => simp
  | top => simp
  | coe x =>
    rw [Ideal.sqrt_coe]
    split
    · simp
    · rw [← EReal.coe_add, ← EReal.coe_zero, Ne, EReal.coe_eq_coe_iff]
      positivity

/-- An infinite value. -/
def Inf (x : EReal) : Prop := x = ⊤ ∨ x = ⊥

/-- A sum with an infinite part is infinite. -/
theorem Inf.add_left {x : EReal} (h : Inf x) (y : EReal) : Inf (x + y) := by
  rcases h with rfl | rfl
  · induction y using EReal.rec <;> simp [Inf]
  · simp [Inf]

/-- A sum with an infinite part is infinite. -/
theorem Inf.add_right {y : EReal} (h : Inf y) (x : EReal) : Inf (x + y) := add_comm x y ▸ h.add_left x

/-- The product of infinite values is infinite. -/
theorem Inf.mul {x y : EReal} (h : Inf x) (h' : Inf y) : Inf (x * y) := by
  rcases h with rfl | rfl <;> rcases h' with rfl | rfl <;> simp [Inf]

/-- The square of an infinite value is `⊤`. -/
theorem Inf.mul_self {x : EReal} (h : Inf x) : x * x = ⊤ := by
  rcases h with rfl | rfl <;> simp

/-- A value that is not infinite is a real number. -/
theorem not_inf {x : EReal} (h : ¬ Inf x) : ((x.toReal : ℝ) : EReal) = x :=
  EReal.coe_toReal (fun e => h (.inl e)) (fun e => h (.inr e))

/-- A square is not negative. -/
theorem mul_self_nonneg (x : EReal) : 0 ≤ x * x := by
  induction x using EReal.rec with
  | bot => simp
  | top => simp
  | coe x => rw [← EReal.coe_mul, EReal.coe_nonneg]; exact _root_.mul_self_nonneg x

/-- A sum with an infinite term is infinite. -/
theorem Inf.sum {α : Type} [Fintype α] (f : α → EReal) (a : α) (h : Inf (f a)) : Inf (∑ i, f i) := by
  classical
  rw [← Finset.add_sum_erase _ _ (Finset.mem_univ a)]
  exact h.add_left _

/-- A sum of values not negative, one of them `⊤`, is `⊤`. -/
theorem sum_eq_top {α : Type} [Fintype α] (f : α → EReal) (hf : ∀ i, 0 ≤ f i) (a : α) (h : f a = ⊤) : ∑ i, f i = ⊤ :=
  top_le_iff.mp (h ▸ Finset.single_le_sum (fun i _ => hf i) (Finset.mem_univ a))

/-! ## A weight with an infinite entry: both normalised weights are zero -/

section Infinite
variable (W : ι → κ → EReal) {i₀ : ι} {j₀ : κ} (h : Inf (W i₀ j₀))

/-- A matrix of trace `⊤` is followed by the zero matrix. -/
theorem next_of_top (G : κ → κ → EReal) (hG : tr G = ⊤) : next G = fun _ _ => 0 := by
  funext j k
  simp [next, hG, div_top]

/-- The zero matrix is followed by one of `⊤` everywhere, and that by the zero matrix. -/
theorem next_next_zero (j₀ : κ) : next (next fun _ _ : κ => (0 : EReal)) = fun _ _ => 0 := by
  have h1 : next (fun _ _ : κ => (0 : EReal)) = fun _ _ => ⊤ := by
    funext j k
    simp only [next, tr, Finset.sum_const_zero, div_zero_zero, EReal.bot_mul_bot]
    exact sum_eq_top _ (fun _ => le_top) j₀ rfl
  rw [h1]
  exact next_of_top _ (sum_eq_top _ (fun _ => le_top) j₀ rfl)

include h in
/-- With an infinite entry in the weight the kernel's norm is `⊥`. -/
theorem sigmaK_inf : sigmaK W = ⊥ := by
  have ht : tr (gram W) = ⊤ := sum_eq_top _ (fun j => Finset.sum_nonneg fun i _ => mul_self_nonneg _) j₀
    (sum_eq_top _ (fun i => mul_self_nonneg _) i₀ h.mul_self)
  have h13 : next^[13] (gram W) = fun _ _ => 0 := by
    show next (next (next (next (next (next (next (next (next (next (next (next (next (gram W))))))))))))) = _
    rw [next_of_top _ ht]
    simp only [next_next_zero j₀]
  have hr : rows (fun _ _ : κ => (0 : EReal)) = fun _ => 0 := by funext j; simp [rows]
  rw [sigmaK, h13, hr]
  simp [rayleigh, div_zero_zero]

include h in
/-- With an infinite entry in the weight the reference's norm is `⊥`. -/
theorem sigmaR_inf {ε : ℝ} (hε : 0 < ε) : sigmaR (ε : EReal) W = ⊥ := by
  have h1 : power (ε : EReal) W (fun _ => 1) = fun _ => 0 := by
    have ha : Inf (app W (fun _ => 1) i₀) := Inf.sum _ j₀ (by simpa using h)
    have hb : Inf (back W (fun _ => 1) j₀) := Inf.sum _ i₀ (h.mul ha)
    have hs : ∑ k, back W (fun _ => 1) k * back W (fun _ => 1) k = ⊤ := sum_eq_top _ (fun _ => mul_self_nonneg _) j₀ hb.mul_self
    funext j
    simp [power, hs, div_top]
  have h0 : power (ε : EReal) W (fun _ => 0) = fun _ => 0 := by
    funext j
    have : ∀ k, back W (fun _ => 0) k = 0 := fun k => by simp [back, app]
    simp only [power, this, mul_zero, Finset.sum_const_zero]
    exact zero_div (sqrt_add_ne_zero 0 hε)
  rw [sigmaR, Function.iterate_succ_apply, h1, Function.iterate_fixed h0]
  simp [stretch, app, sqrt_zero, div_zero_zero]

end Infinite

/-! ## A real weight -/

section Real
variable (M : Matrix ι κ ℝ)

/-- The weight as a matrix of extended reals. -/
def up {α β : Type} (M : Matrix α β ℝ) (i : α) (j : β) : EReal := ((M i j : ℝ) : EReal)

/-- The Gram matrix of a real weight. -/
theorem gram_up : gram (up M) = up (Mᵀ * M) := by
  funext j k
  simp only [gram, up, Matrix.mul_apply, Matrix.transpose_apply, coe_sum, EReal.coe_mul]

/-- The trace of a real matrix. -/
theorem tr_up (P : Matrix κ κ ℝ) : tr (up P) = ((P.trace : ℝ) : EReal) := by
  simp only [tr, up, Matrix.trace, Matrix.diag, coe_sum]

/-- The squaring of a real matrix whose trace is not zero. -/
theorem next_up (P : Matrix κ κ ℝ) (h : P.trace ≠ 0) : next (up P) = up (((P.trace)⁻¹ ^ 2) • (P * P)) := by
  funext j k
  simp only [next, tr_up]
  simp only [up, div_real _ h, Matrix.smul_apply, Matrix.mul_apply, smul_eq_mul, ← EReal.coe_mul, ← coe_sum]
  rw [EReal.coe_eq_coe_iff, Finset.mul_sum]
  refine Finset.sum_congr rfl fun l _ => ?_
  field_simp

/-- A symmetric matrix that is not zero has a square of positive trace. -/
theorem trace_sq_pos (P : Matrix κ κ ℝ) (hs : Pᵀ = P) (h0 : P ≠ 0) : 0 < (P * P).trace := by
  have he : (P * P).trace = ∑ j, ∑ k, P j k * P j k := by
    simp only [Matrix.trace, Matrix.diag, Matrix.mul_apply]
    refine Finset.sum_congr rfl fun j _ => Finset.sum_congr rfl fun k _ => ?_
    rw [← Matrix.transpose_apply P j k, hs]
  obtain ⟨j, hj⟩ : ∃ j, ∃ k, P j k ≠ 0 := by
    by_contra hh
    push Not at hh
    exact h0 (by ext j k; exact hh j k)
  obtain ⟨k, hk⟩ := hj
  rw [he]
  refine Finset.sum_pos' (fun _ _ => Finset.sum_nonneg fun _ _ => _root_.mul_self_nonneg _) ⟨j, Finset.mem_univ _, ?_⟩
  exact Finset.sum_pos' (fun _ _ => _root_.mul_self_nonneg _) ⟨k, Finset.mem_univ _, mul_self_pos.mpr hk⟩

/-- The Gram matrix of a weight that is not zero has a positive trace. -/
theorem gram_trace_pos (h0 : M ≠ 0) : 0 < (Mᵀ * M).trace := by
  obtain ⟨i, hi⟩ : ∃ i, ∃ k, M i k ≠ 0 := by
    by_contra hh
    push Not at hh
    exact h0 (by ext j k; exact hh j k)
  obtain ⟨k, hk⟩ := hi
  simp only [Matrix.trace, Matrix.diag, Matrix.mul_apply, Matrix.transpose_apply]
  refine Finset.sum_pos' (fun _ _ => Finset.sum_nonneg fun _ _ => _root_.mul_self_nonneg _) ⟨k, Finset.mem_univ _, ?_⟩
  exact Finset.sum_pos' (fun _ _ => _root_.mul_self_nonneg _) ⟨i, Finset.mem_univ _, mul_self_pos.mpr hk⟩

/-- The powers of the Gram matrix are symmetric. -/
theorem pow_symm (n : ℕ) : ((Mᵀ * M) ^ n)ᵀ = (Mᵀ * M) ^ n := by
  rw [Matrix.transpose_pow, Matrix.transpose_mul, Matrix.transpose_transpose]

/-- The `2^k`-th powers of the Gram matrix have a positive trace. -/
theorem trace_pow_pos (h0 : M ≠ 0) (k : ℕ) : 0 < ((Mᵀ * M) ^ 2 ^ k).trace := by
  induction k with
  | zero => simpa using gram_trace_pos M h0
  | succ k ih =>
    rw [pow_succ 2 k, pow_mul, pow_two]
    refine trace_sq_pos _ (pow_symm M _) fun e => ?_
    rw [e, Matrix.trace_zero] at ih
    exact lt_irrefl _ ih

/-- After `k` squarings the kernel holds a positive multiple of the `2^k`-th power of the Gram matrix. -/
theorem iterate_next (h0 : M ≠ 0) (k : ℕ) : ∃ c : ℝ, 0 < c ∧ next^[k] (gram (up M)) = up (c • (Mᵀ * M) ^ 2 ^ k) := by
  induction k with
  | zero => exact ⟨1, one_pos, by simp [gram_up]⟩
  | succ k ih =>
    obtain ⟨c, hc, e⟩ := ih
    have ht : 0 < (c • (Mᵀ * M) ^ 2 ^ k).trace := by
      rw [Matrix.trace_smul]
      exact mul_pos hc (trace_pow_pos M h0 k)
    refine ⟨((c • (Mᵀ * M) ^ 2 ^ k).trace)⁻¹ ^ 2 * (c * c), by positivity, ?_⟩
    rw [Function.iterate_succ_apply', e, next_up _ ht.ne']
    congr 1
    rw [Matrix.smul_mul, Matrix.mul_smul, smul_smul, smul_smul, ← pow_two ((Mᵀ * M) ^ 2 ^ k), ← pow_mul, ← pow_succ, mul_assoc]

/-- The vector as extended reals. -/
def upv {α : Type} (x : α → ℝ) (j : α) : EReal := ((x j : ℝ) : EReal)

/-- The row sums of a real matrix: the matrix at the vector of ones. -/
theorem rows_up (P : Matrix κ κ ℝ) : rows (up P) = upv (P *ᵥ fun _ => 1) := by
  funext j
  simp [rows, up, upv, Matrix.mulVec, dotProduct, coe_sum]

/-- `M x` of real numbers. -/
theorem app_up (x : κ → ℝ) : app (up M) (upv x) = upv (M *ᵥ x) := by
  funext i
  simp [app, up, upv, Matrix.mulVec, dotProduct, coe_sum, EReal.coe_mul]

/-- `Mᵀ M x` of real numbers. -/
theorem back_up (x : κ → ℝ) : back (up M) (upv x) = upv ((Mᵀ * M) *ᵥ x) := by
  funext j
  rw [← Matrix.mulVec_mulVec]
  simp only [back, app_up]
  simp [up, upv, Matrix.mulVec, dotProduct, coe_sum, EReal.coe_mul]

/-- The squared length of a real vector. -/
theorem sq_up {α : Type} [Fintype α] (x : α → ℝ) : ∑ j, upv x j * upv x j = ((x ⬝ᵥ x : ℝ) : EReal) := by
  simp [upv, dotProduct, coe_sum, EReal.coe_mul]

/-- A squared length is not negative. -/
theorem dot_nonneg {α : Type} [Fintype α] (x : α → ℝ) : 0 ≤ x ⬝ᵥ x := Finset.sum_nonneg fun _ _ => _root_.mul_self_nonneg _

/-- The squared length of a vector that is not zero is positive. -/
theorem dot_pos {α : Type} [Fintype α] {x : α → ℝ} (h : x ≠ 0) : 0 < x ⬝ᵥ x := by
  obtain ⟨j, hj⟩ := Function.ne_iff.mp h
  exact Finset.sum_pos' (fun _ _ => _root_.mul_self_nonneg _) ⟨j, Finset.mem_univ _, mul_self_pos.mpr hj⟩

/-- A step of the power method on a real weight and a real vector. -/
theorem power_up {ε : ℝ} (hε : 0 < ε) (x : κ → ℝ) : power (ε : EReal) (up M) (upv x)
    = upv ((Real.sqrt (((Mᵀ * M) *ᵥ x) ⬝ᵥ ((Mᵀ * M) *ᵥ x)) + ε)⁻¹ • ((Mᵀ * M) *ᵥ x)) := by
  funext j
  have hp : Real.sqrt (((Mᵀ * M) *ᵥ x) ⬝ᵥ ((Mᵀ * M) *ᵥ x)) + ε ≠ 0 := by positivity
  simp only [power, back_up, sq_up, sqrt_real (dot_nonneg _), ← EReal.coe_add]
  simp only [upv, div_real _ hp, Pi.smul_apply, smul_eq_mul]
  rw [div_eq_inv_mul]

/-- After `k` steps the reference holds a positive multiple of the `k`-th power of the Gram matrix at the vector of ones. -/
theorem iterate_power {ε : ℝ} (hε : 0 < ε) (k : ℕ) :
    ∃ c : ℝ, 0 < c ∧ (power (ε : EReal) (up M))^[k] (fun _ => 1) = upv (c • ((Mᵀ * M) ^ k *ᵥ fun _ => 1)) := by
  induction k with
  | zero => exact ⟨1, one_pos, by funext j; simp [upv]⟩
  | succ k ih =>
    obtain ⟨c, hc, e⟩ := ih
    rw [Function.iterate_succ_apply', e, power_up M hε, Matrix.mulVec_smul, smul_smul, Matrix.mulVec_mulVec, ← pow_succ']
    exact ⟨_, by positivity, rfl⟩

/-- `‖M x‖² / ‖x‖²` of a positive multiple of a vector. -/
theorem ratio_smul {c : ℝ} (hc : 0 < c) (x : κ → ℝ) :
    ((M *ᵥ (c • x)) ⬝ᵥ (M *ᵥ (c • x))) / ((c • x) ⬝ᵥ (c • x)) = ((M *ᵥ x) ⬝ᵥ (M *ᵥ x)) / (x ⬝ᵥ x) := by
  simp only [Matrix.mulVec_smul, smul_dotProduct, dotProduct_smul, smul_eq_mul, ← mul_assoc]
  exact mul_div_mul_left _ _ (mul_pos hc hc).ne'

/-- Rayleigh's quotient of the Gram matrix is `‖M x‖² / ‖x‖²`. -/
theorem rayleigh_up (x : κ → ℝ) (hx : x ≠ 0) :
    rayleigh (gram (up M)) (upv x) = ((((M *ᵥ x) ⬝ᵥ (M *ᵥ x)) / (x ⬝ᵥ x) : ℝ) : EReal) := by
  have hn : ∑ j, (∑ k, gram (up M) j k * upv x k) * upv x j = (((M *ᵥ x) ⬝ᵥ (M *ᵥ x) : ℝ) : EReal) := by
    have e : (M *ᵥ x) ⬝ᵥ (M *ᵥ x) = ((Mᵀ * M) *ᵥ x) ⬝ᵥ x := by
      rw [← Matrix.mulVec_mulVec, Matrix.mulVec_transpose, ← Matrix.dotProduct_mulVec]
    rw [e, gram_up]
    simp only [up, upv, Matrix.mulVec, dotProduct, coe_sum, EReal.coe_mul]
  rw [rayleigh, hn, sq_up, div_real _ (dot_pos hx).ne']

/-- `‖M x‖ / ‖x‖` is the square root of `‖M x‖² / ‖x‖²`. -/
theorem stretch_up (x : κ → ℝ) (hx : x ≠ 0) :
    stretch (up M) (upv x) = ((Real.sqrt (((M *ᵥ x) ⬝ᵥ (M *ᵥ x)) / (x ⬝ᵥ x)) : ℝ) : EReal) := by
  rw [stretch, app_up, sq_up, sq_up, sqrt_real (dot_nonneg _), sqrt_real (dot_nonneg _),
    div_real _ (Real.sqrt_pos.mpr (dot_pos hx)).ne', Real.sqrt_div (dot_nonneg _)]

/-- Rayleigh's quotient at the zero vector is `⊥`. -/
theorem rayleigh_zero (G : κ → κ → EReal) : rayleigh G (upv 0) = ⊥ := by
  simp [rayleigh, upv, div_zero_zero]

/-- `‖W u‖ / ‖u‖` at the zero vector is `⊥`. -/
theorem stretch_zero (W : ι → κ → EReal) : stretch W (upv 0) = ⊥ := by
  simp [stretch, app, upv, sqrt_zero, div_zero_zero]

/-- On a real weight that is not zero the two norms are the same. -/
theorem sigma_eq {ε : ℝ} (hε : 0 < ε) (h0 : M ≠ 0) : sigmaK (up M) = sigmaR (ε : EReal) (up M) := by
  obtain ⟨c, hc, e⟩ := iterate_next M h0 13
  obtain ⟨d, hd, e'⟩ := iterate_power M hε 8192
  rw [sigmaK, sigmaR, e, e', rows_up, Matrix.smul_mulVec, show 2 ^ 13 = 8192 from by norm_num]
  generalize ((Mᵀ * M) ^ 8192 *ᵥ fun _ => 1) = x
  by_cases hx : x = 0
  · rw [hx, smul_zero, smul_zero, rayleigh_zero, stretch_zero, Ideal.sqrt_bot]
  · rw [rayleigh_up M _ (smul_ne_zero hc.ne' hx), stretch_up M _ (smul_ne_zero hd.ne' hx), ratio_smul M hc, ratio_smul M hd,
      sqrt_real (div_nonneg (dot_nonneg _) (dot_nonneg _))]

/-- For the zero weight the reference's norm is `0 / 0`. -/
theorem sigmaR_zero {ε : ℝ} (hε : 0 < ε) : sigmaR (ε : EReal) (up (0 : Matrix ι κ ℝ)) = ⊥ := by
  obtain ⟨d, hd, e'⟩ := iterate_power (0 : Matrix ι κ ℝ) hε 8192
  rw [sigmaR, e']
  simp only [Matrix.mul_zero]
  rw [zero_pow (by norm_num), Matrix.zero_mulVec, smul_zero, stretch_zero]

end Real

/-- The weight over the kernel's norm is the weight over the reference's, both norms kept off zero by the same number. -/
theorem normalised_eq {ε : ℝ} (hε : 0 < ε) (W : ι → κ → EReal) (i : ι) (j : κ) :
    Ideal.div (W i j) (sigmaK W + (ε : EReal)) = Ideal.div (W i j) (sigmaR (ε : EReal) W + (ε : EReal)) := by
  by_cases h : ∃ i j, Inf (W i j)
  · obtain ⟨i₀, j₀, h⟩ := h
    rw [sigmaK_inf W h, sigmaR_inf W h hε]
  · have hW : W = up (Matrix.of fun i j => (W i j).toReal) := by
      funext i j
      exact (not_inf fun hh => h ⟨i, j, hh⟩).symm
    rw [hW]
    generalize (Matrix.of fun i j => (W i j).toReal) = M
    by_cases h0 : M = 0
    · subst h0
      rw [sigmaR_zero hε, EReal.bot_add, div_bot]
      exact zero_div (sqrt_add_ne_zero _ hε)
    · rw [sigma_eq M hε h0]

end Cert.Spectral

end
-- ==== Proof.Norm.lean ====
/-
  The two normalised gate weights are the same arrays: the kernel's (thirteen squarings of the Gram matrix) and the
  reference's (8192 steps of the power method), each read at an index and put beside `Cert.Spectral`.
-/
module

public import proofs.«01_k».proof.Proof.KernelVal
public import proofs.«01_k».proof.Proof.RefRun
public import proofs.«01_k».proof.Proof.Spectral
public import Idealize.ShloMosaic.Lib.Pointwise

@[expose] public section

set_option maxRecDepth 32768

noncomputable section

namespace Cert.Norm

open Idealize.ShloMosaic Idealize.ShloMosaic.TcCoe
open Cert.KVal Cert.RefRun Cert.Spectral

/-- The number that keeps a norm off zero. -/
def eps : ℝ := (0x2B8CBCCC - 0x2B800000 + 8388608 : ℝ) * 2 ^ (-63 : ℤ)

/-- It is positive. -/
theorem eps_pos : 0 < eps := by unfold eps; norm_num

/-- It is what the programs' constant reads as. -/
theorem ofBits_eps : Ideal.ofBits .f32 0x2B8CBCCC#32 = (eps : EReal) := by
  simp [Ideal.ofBits, Ideal.ieee, -EReal.coe_mul, eps]
  norm_num

/-- A matrix's array as a function of row and column. -/
def mat {r d : ℕ} (W : FVec Ideal ⟨2, ![r, d]⟩ .f32) (i : Fin r) (j : Fin d) : EReal := W (ix2 i j)

/-- The entry in row `i` and column `j`. -/
theorem mat_apply {r d : ℕ} (W : FVec Ideal ⟨2, ![r, d]⟩ .f32) (i : Fin r) (j : Fin d) : mat W i j = W (ix2 i j) := rfl

/-- A vector's array as a function of its index. -/
def vec {d : ℕ} (u : FVec Ideal ⟨1, ![d]⟩ .f32) (j : Fin d) : EReal := u (ix1 j)

/-- The entry at `j`. -/
theorem vec_apply {d : ℕ} (u : FVec Ideal ⟨1, ![d]⟩ .f32) (j : Fin d) : vec u j = u (ix1 j) := rfl

/-- The sum of a square array whose entries off the diagonal are replaced by zero. -/
theorem sum_diag {d : ℕ} (hd : d ≤ 2 ^ 32) (f : Fin d → Fin d → EReal) :
    ∑ x : Fin d, ∑ y : Fin d, Scalar.select (IntOp.cmpi .eq (BitVec.ofNat 32 x) (BitVec.ofNat 32 y)) (f x y) 0 = ∑ x, f x x := by
  refine Finset.sum_congr rfl fun x _ => ?_
  rw [Finset.sum_eq_single x]
  · simp [Scalar.select, IntOp.cmpi]
  · intro y _ hy
    have hne : ¬ BitVec.ofNat 32 (x : ℕ) = BitVec.ofNat 32 (y : ℕ) := fun e => hy (Fin.ext (by
      have := congrArg BitVec.toNat e
      simp only [BitVec.toNat_ofNat] at this
      rw [Nat.mod_eq_of_lt (x.isLt.trans_le hd), Nat.mod_eq_of_lt (y.isLt.trans_le hd)] at this
      exact this.symm))
    simp [Scalar.select, IntOp.cmpi, beq_eq_false_iff_ne.mpr hne]
  · intro h
    exact absurd (Finset.mem_univ x) h

/-! ## W_ru -/

section Kernel256
open Cert.KernelIdeal Cert.KernelIdeal.Gen

/-- The kernel's Gram matrix. -/
theorem gram256_mat (W : FVec Ideal S512x256 .f32) : mat (gram256 W) = gram (mat W) := by
  funext j k
  simp only [gram, mat_apply]
  pointwise [gram256]

/-- The kernel's trace. -/
theorem tr256_mat (G : FVec Ideal S256x256 .f32) : sum256 (diag256 G) = tr (mat G) := by
  simp only [tr, mat_apply]
  pointwise [sum256, diag256]
  exact sum_diag (by norm_num) _

/-- The kernel's squaring. -/
theorem next256_mat (G : FVec Ideal S256x256 .f32) : mat (next256 G) = next (mat G) := by
  funext j k
  simp only [next, ← tr256_mat, mat_apply]
  pointwise [next256, square256]

/-- The kernel's row sums. -/
theorem rows256_mat (G : FVec Ideal S256x256 .f32) : (fun j => rows256 G (ix2 j 0)) = rows (mat G) := by
  funext j
  simp only [rows, mat_apply]
  pointwise [rows256]

/-- The kernel's Rayleigh quotient. -/
theorem rayleigh256_mat (G : FVec Ideal S256x256 .f32) (v : FVec Ideal S256x1 .f32) :
    rayleigh256 G v = rayleigh (mat G) (fun j => v (ix2 j 0)) := by
  simp only [rayleigh, mat_apply]
  pointwise [rayleigh256, rows256, total256]
  simp only [Fin.sum_univ_one]

/-- The kernel's normalised weight at an index. -/
theorem normK256_mat (W : FVec Ideal S512x256 .f32) (i : Fin 512) (j : Fin 256) :
    normK256 W (ix2 i j) = Ideal.div (mat W i j) (sigmaK (mat W) + (eps : EReal)) := by
  have hit : mat (next256^[13] (gram256 W)) = next^[13] (gram (mat W)) := by
    rw [← gram256_mat]
    exact (Function.Semiconj.iterate_right (f := mat) (fun G => next256_mat G) 13).eq _
  unfold sigmaK
  rw [← hit, ← gram256_mat, ← rows256_mat, ← rayleigh256_mat, ← ofBits_eps, mat_apply]
  pointwise [normK256, over256]
  rfl

end Kernel256

section Reference256
open Cert.ReferenceIdeal Cert.ReferenceIdeal.Gen

/-- The reference's step of the power method. -/
theorem stepRu_vec (W : FVec Ideal S512x256 .f32) (u : FVec Ideal S256 .f32) :
    vec (stepRu (F := Ideal) W u) = power (eps : EReal) (mat W) (vec u) := by
  funext j
  simp only [power, back, app, mat_apply, vec_apply, ← ofBits_eps]
  pointwise [stepRu]

/-- The reference's starting vector. -/
theorem oneRu_vec : vec (oneRu (F := Ideal) : FVec Ideal S256 .f32) = fun _ => 1 := by
  funext j
  simp only [vec_apply]
  pointwise [oneRu]

/-- The reference's normalised weight at an index. -/
theorem normRu_mat (W : FVec Ideal S512x256 .f32) (i : Fin 512) (j : Fin 256) :
    normRu (F := Ideal) W ((stepRu (F := Ideal) W)^[8192] (oneRu (F := Ideal))) (ix2 i j) = Ideal.div (mat W i j) (sigmaR (eps : EReal) (mat W) + (eps : EReal)) := by
  have hit : vec ((stepRu (F := Ideal) W)^[8192] (oneRu (F := Ideal))) = (power (eps : EReal) (mat W))^[8192] fun _ => 1 := by
    rw [← oneRu_vec]
    exact (Function.Semiconj.iterate_right (f := vec) (fun u => stepRu_vec W u) 8192).eq _
  unfold sigmaR
  rw [← hit]
  generalize (stepRu (F := Ideal) W)^[8192] (oneRu (F := Ideal)) = u
  simp only [stretch, app, mat_apply, vec_apply, ← ofBits_eps]
  pointwise [normRu]

end Reference256

/-- The two normalised weights are the same array. -/
theorem normRu_same (W : FVec Ideal Cert.KernelIdeal.S512x256 .f32) : normK256 W = normRu (F := Ideal) W ((stepRu (F := Ideal) W)^[8192] (oneRu (F := Ideal))) := by
  funext i
  obtain ⟨a, b, rfl⟩ : ∃ a b, i = ix2 a b := ⟨i 0, i 1, (eq_ix2 i)⟩
  rw [normK256_mat]
  exact (normalised_eq eps_pos (mat W) a b).trans (normRu_mat W a b).symm

/-! ## W_c -/

section Kernel128
open Cert.KernelIdeal Cert.KernelIdeal.Gen

/-- The kernel's Gram matrix. -/
theorem gram128_mat (W : FVec Ideal S512x128 .f32) : mat (gram128 W) = gram (mat W) := by
  funext j k
  simp only [gram, mat_apply]
  pointwise [gram128]

/-- The kernel's trace. -/
theorem tr128_mat (G : FVec Ideal S128x128 .f32) : sum128 (diag128 G) = tr (mat G) := by
  simp only [tr, mat_apply]
  pointwise [sum128, diag128]
  exact sum_diag (by norm_num) _

/-- The kernel's squaring. -/
theorem next128_mat (G : FVec Ideal S128x128 .f32) : mat (next128 G) = next (mat G) := by
  funext j k
  simp only [next, ← tr128_mat, mat_apply]
  pointwise [next128, square128]

/-- The kernel's row sums. -/
theorem rows128_mat (G : FVec Ideal S128x128 .f32) : (fun j => rows128 G (ix2 j 0)) = rows (mat G) := by
  funext j
  simp only [rows, mat_apply]
  pointwise [rows128]

/-- The kernel's Rayleigh quotient. -/
theorem rayleigh128_mat (G : FVec Ideal S128x128 .f32) (v : FVec Ideal S128x1 .f32) :
    rayleigh128 G v = rayleigh (mat G) (fun j => v (ix2 j 0)) := by
  simp only [rayleigh, mat_apply]
  pointwise [rayleigh128, rows128, total128]
  simp only [Fin.sum_univ_one]

/-- The kernel's normalised weight at an index. -/
theorem normK128_mat (W : FVec Ideal S512x128 .f32) (i : Fin 512) (j : Fin 128) :
    normK128 W (ix2 i j) = Ideal.div (mat W i j) (sigmaK (mat W) + (eps : EReal)) := by
  have hit : mat (next128^[13] (gram128 W)) = next^[13] (gram (mat W)) := by
    rw [← gram128_mat]
    exact (Function.Semiconj.iterate_right (f := mat) (fun G => next128_mat G) 13).eq _
  unfold sigmaK
  rw [← hit, ← gram128_mat, ← rows128_mat, ← rayleigh128_mat, ← ofBits_eps, mat_apply]
  pointwise [normK128, over128]
  rfl

end Kernel128

section Reference128
open Cert.ReferenceIdeal Cert.ReferenceIdeal.Gen

/-- The reference's step of the power method. -/
theorem stepC_vec (W : FVec Ideal S512x128 .f32) (u : FVec Ideal S128 .f32) :
    vec (stepC (F := Ideal) W u) = power (eps : EReal) (mat W) (vec u) := by
  funext j
  simp only [power, back, app, mat_apply, vec_apply, ← ofBits_eps]
  pointwise [stepC]

/-- The reference's starting vector. -/
theorem oneC_vec : vec (oneC (F := Ideal) : FVec Ideal S128 .f32) = fun _ => 1 := by
  funext j
  simp only [vec_apply]
  pointwise [oneC]

/-- The reference's normalised weight at an index. -/
theorem normC_mat (W : FVec Ideal S512x128 .f32) (i : Fin 512) (j : Fin 128) :
    normC (F := Ideal) W ((stepC (F := Ideal) W)^[8192] (oneC (F := Ideal))) (ix2 i j) = Ideal.div (mat W i j) (sigmaR (eps : EReal) (mat W) + (eps : EReal)) := by
  have hit : vec ((stepC (F := Ideal) W)^[8192] (oneC (F := Ideal))) = (power (eps : EReal) (mat W))^[8192] fun _ => 1 := by
    rw [← oneC_vec]
    exact (Function.Semiconj.iterate_right (f := vec) (fun u => stepC_vec W u) 8192).eq _
  unfold sigmaR
  rw [← hit]
  generalize (stepC (F := Ideal) W)^[8192] (oneC (F := Ideal)) = u
  simp only [stretch, app, mat_apply, vec_apply, ← ofBits_eps]
  pointwise [normC]

end Reference128

/-- The two normalised weights are the same array. -/
theorem normC_same (W : FVec Ideal Cert.KernelIdeal.S512x128 .f32) : normK128 W = normC (F := Ideal) W ((stepC (F := Ideal) W)^[8192] (oneC (F := Ideal))) := by
  funext i
  obtain ⟨a, b, rfl⟩ : ∃ a b, i = ix2 a b := ⟨i 0, i 1, (eq_ix2 i)⟩
  rw [normK128_mat]
  exact (normalised_eq eps_pos (mat W) a b).trans (normC_mat W a b).symm

end Cert.Norm

end
-- ==== Proof.Output.lean ====
/-
  The output layer is the same in the kernel and in the reference: the kernel adds the states over batch and nodes, meets
  the sum with the normalised W_out, divides by the number of nodes and adds the bias; the reference meets every state with
  the normalised W_out, adds the bias and takes the mean. The states are real numbers, so the sums may be exchanged.
-/
module

public import proofs.«01_k».proof.Proof.Recur
public import proofs.«01_k».proof.Proof.Norm

@[expose] public section

set_option maxRecDepth 32768

noncomputable section

namespace Cert.Output

open Idealize.ShloMosaic Idealize.ShloMosaic.TcCoe
open Cert.KVal Cert.RefRun Cert.Recur Cert.Norm Cert.Spectral
open Cert.KernelIdeal Cert.KernelIdeal.Gen

/-! ## States are real numbers -/

/-- A value that is a real number. -/
def IsNum (x : EReal) : Prop := ∃ r : ℝ, x = (r : EReal)

/-- The logistic function's values are real numbers. -/
theorem logistic_real (x : EReal) : IsNum (Ideal.logistic x) := by
  induction x using EReal.rec with
  | bot => exact ⟨0, by simp⟩
  | top => exact ⟨1, by simp⟩
  | coe r => exact ⟨_, Ideal.logistic_coe _⟩

/-- The hyperbolic tangent's values are real numbers. -/
theorem tanh_real (x : EReal) : IsNum (Ideal.tanh x) := by
  induction x using EReal.rec with
  | bot => exact ⟨-1, by simp⟩
  | top => exact ⟨1, by simp⟩
  | coe r => exact ⟨_, rfl⟩

variable (A : FVec Ideal S2048x2048 .f32) (Wr : FVec Ideal S512x256 .f32) (Wc : FVec Ideal S512x128 .f32) (br : FVec Ideal S1x256 .f32) (bc : FVec Ideal S1x128 .f32)
  (x h : FVec Ideal S2048x128 .f32) (n : Fin 2048) (k : Fin 128)

/-- The state after the first step is real. -/
theorem first_real : IsNum (first A br bc Wr Wc x (ix2 n k)) := by
  obtain ⟨c, hc⟩ := tanh_real _
  obtain ⟨u, hu⟩ := logistic_real _
  refine ⟨(1 - u) * c, ?_⟩
  pointwise [first, updK]
  rw [EReal.coe_mul, EReal.coe_sub, EReal.coe_one, ← hc, ← hu]

/-- A step takes real states to real states. -/
theorem step_real (hh : ∀ n k, IsNum (h (ix2 n k))) : IsNum (step A br bc Wr Wc x h (ix2 n k)) := by
  obtain ⟨c, hc⟩ := tanh_real _
  obtain ⟨u, hu⟩ := logistic_real _
  obtain ⟨v, hv⟩ := hh n k
  refine ⟨u * v + (1 - u) * c, ?_⟩
  pointwise [step, mixK, updK, gatesK, candK]
  rw [EReal.coe_add, EReal.coe_mul, EReal.coe_mul, EReal.coe_sub, EReal.coe_one, ← hc, ← hu, ← hv]

/-! ## The output layer -/

/-- A weight over its length, kept off zero, is a real number. -/
theorem over_length_real (w : Fin 128 → EReal) (d : Fin 128) : IsNum (Ideal.div (w d) (Ideal.sqrt (∑ x, w x * w x) + (eps : EReal))) := by
  by_cases h : ∃ d, Inf (w d)
  · obtain ⟨d₀, h⟩ := h
    rw [sum_eq_top _ (fun d => Cert.Spectral.mul_self_nonneg (w d)) d₀ h.mul_self, Ideal.sqrt_top, EReal.top_add_coe, div_top]
    exact ⟨0, EReal.coe_zero.symm⟩
  · have hw : w = upv fun d => (w d).toReal := by
      funext d
      exact (not_inf fun hh => h ⟨d, hh⟩).symm
    rw [hw, sq_up, sqrt_real (dot_nonneg _), ← EReal.coe_add]
    have hp := eps_pos
    exact ⟨_, div_real _ (by positivity)⟩

/-- A sum of `⊥` over anything but nothing is `⊥`. -/
theorem sum_bot {α : Type} [Fintype α] (a : α) : ∑ _ : α, (⊥ : EReal) = ⊥ := by
  classical
  rw [← Finset.add_sum_erase _ _ (Finset.mem_univ a), EReal.bot_add]

/-- The mean of a linear output over batch and nodes is the linear output of the mean. -/
theorem mean_eq (H : Fin 2 → Fin 2048 → Fin 128 → EReal) (hH : ∀ x n d, IsNum (H x n d)) (w : Fin 128 → EReal) (hw : ∀ d, IsNum (w d)) (b : EReal) :
    Ideal.div (∑ d, (∑ n, H 0 n d + ∑ n, H 1 n d) * w d) ((4096 : ℝ) : EReal) + b
      = Ideal.div (∑ x, ∑ n, (∑ d, H x n d * w d + b)) ((4096 : ℝ) : EReal) := by
  choose r hr using hH
  choose v hv using hw
  have e1 : ∑ d, (∑ n, H 0 n d + ∑ n, H 1 n d) * w d = ((∑ x, ∑ n, ∑ d, r x n d * v d : ℝ) : EReal) := by
    simp only [hr, hv, ← coe_sum, ← EReal.coe_add, ← EReal.coe_mul]
    rw [EReal.coe_eq_coe_iff, Fin.sum_univ_two, Finset.sum_comm (f := fun n d => r 0 n d * v d), Finset.sum_comm (f := fun n d => r 1 n d * v d),
      ← Finset.sum_add_distrib]
    exact Finset.sum_congr rfl fun d _ => by rw [add_mul, Finset.sum_mul, Finset.sum_mul]
  have e2 : ∀ x n, ∑ d, H x n d * w d = ((∑ d, r x n d * v d : ℝ) : EReal) := fun x n => by
    simp only [hr, hv, coe_sum, EReal.coe_mul]
  simp only [e1, e2]
  have h4 : (4096 : ℝ) ≠ 0 := by norm_num
  induction b using EReal.rec with
  | bot =>
    have : ∀ x n, ((∑ d, r x n d * v d : ℝ) : EReal) + ⊥ = ⊥ := fun x n => EReal.add_bot _
    simp only [this]
    rw [sum_bot (0 : Fin 2048), sum_bot (0 : Fin 2), EReal.add_bot, Ideal.div_coe h4, EReal.bot_mul_coe_of_pos (by norm_num)]
  | top =>
    have : ∀ x n, ((∑ d, r x n d * v d : ℝ) : EReal) + ⊤ = ⊤ := fun x n => EReal.coe_add_top _
    simp only [this]
    rw [sum_eq_top (fun _ : Fin 2048 => (⊤ : EReal)) (fun _ => le_top) 0 rfl, sum_eq_top (fun _ : Fin 2 => (⊤ : EReal)) (fun _ => le_top) 0 rfl,
      Ideal.div_coe h4, Ideal.div_coe h4, EReal.top_mul_coe_of_pos (by norm_num), ← EReal.coe_mul, EReal.coe_add_top]
  | coe b =>
    simp only [← EReal.coe_add, ← coe_sum, div_real _ h4, EReal.coe_eq_coe_iff, Finset.sum_add_distrib, Finset.sum_const, Finset.card_univ,
      Fintype.card_fin, nsmul_eq_mul]
    push_cast
    ring

/-- The constant the sums are divided by is 4096. -/
theorem ofBits_4096 : Ideal.ofBits .f32 0x45800000#32 = ((4096 : ℝ) : EReal) := by
  simp [Ideal.ofBits, Ideal.ieee, -EReal.coe_mul]
  norm_num

/-- The two output layers of real states. -/
theorem out_eq (H : FVec Ideal ReferenceIdeal.S2x2048x128 .f32) (hH : ∀ x n d, IsNum (H (ix3 x n d))) (w : FVec Ideal S128x1 .f32) (b : FVec Ideal S1 .f32) :
    outK (slab 0 H) (slab 1 H) (transpose S1x128 [1, 0] w transposes_S128x1_S1x128_1_0) (shapeCast S1x1 b shapeCasts_S1_S1x1) = outp (F := Ideal) H w b := by
  funext i
  obtain ⟨n, k, rfl⟩ : ∃ a b, i = ix2 a b := ⟨i 0, i 1, (eq_ix2 i)⟩
  pointwise [outK, outp, normOutK, normOut, rowSum, nodesK, slab]
  simp only [ofBits_4096, ofBits_eps, Fin.sum_univ_one]
  exact mean_eq (fun x n d => H (ix3 x n d)) hH _ (over_length_real fun d => w (ix2 d 0)) _

end Cert.Output

end
-- ==== Proof.Same.lean ====
/-
  The kernel's result and the reference's are the same function of the arguments.
-/
module

public import proofs.«01_k».proof.Proof.KernelRun
public import proofs.«01_k».proof.Proof.Output

@[expose] public section

set_option maxRecDepth 32768

noncomputable section

namespace Cert.Same

open Idealize.ShloMosaic Idealize.ShloMosaic.TcCoe
open Cert.KVal Cert.RefRun Cert.Recur Cert.Norm Cert.Output
open Cert.KernelIdeal Cert.KernelIdeal.Gen

section Inputs
variable (X : Vec Ideal S2x4x2048x128 .f32)

/-! ## The inputs of each batch row and time -/

/-- The kernel's load of batch row 0 at time 0 is the reference's slice. -/
theorem row00 : rowOf (View.ld X r0_5) = slab 0 (x0 (F := Ideal) X) := by
  funext i
  obtain ⟨n, k, rfl⟩ : ∃ a b, i = ix2 a b := ⟨i 0, i 1, (eq_ix2 i)⟩
  pointwise [rowOf, slab, x0]
/-- The kernel's load of batch row 0 at time 1 is the reference's slice. -/
theorem row01 : rowOf (View.ld X r0_6) = slab 0 (x1 (F := Ideal) X) := by
  funext i
  obtain ⟨n, k, rfl⟩ : ∃ a b, i = ix2 a b := ⟨i 0, i 1, (eq_ix2 i)⟩
  pointwise [rowOf, slab, x1]
/-- The kernel's load of batch row 0 at time 2 is the reference's slice. -/
theorem row02 : rowOf (View.ld X r0_7) = slab 0 (x2 (F := Ideal) X) := by
  funext i
  obtain ⟨n, k, rfl⟩ : ∃ a b, i = ix2 a b := ⟨i 0, i 1, (eq_ix2 i)⟩
  pointwise [rowOf, slab, x2]
/-- The kernel's load of batch row 0 at time 3 is the reference's slice. -/
theorem row03 : rowOf (View.ld X r0_8) = slab 0 (x3 (F := Ideal) X) := by
  funext i
  obtain ⟨n, k, rfl⟩ : ∃ a b, i = ix2 a b := ⟨i 0, i 1, (eq_ix2 i)⟩
  pointwise [rowOf, slab, x3]
/-- The kernel's load of batch row 1 at time 0 is the reference's slice. -/
theorem row10 : rowOf (View.ld X r0_9) = slab 1 (x0 (F := Ideal) X) := by
  funext i
  obtain ⟨n, k, rfl⟩ : ∃ a b, i = ix2 a b := ⟨i 0, i 1, (eq_ix2 i)⟩
  pointwise [rowOf, slab, x0]
/-- The kernel's load of batch row 1 at time 1 is the reference's slice. -/
theorem row11 : rowOf (View.ld X r0_10) = slab 1 (x1 (F := Ideal) X) := by
  funext i
  obtain ⟨n, k, rfl⟩ : ∃ a b, i = ix2 a b := ⟨i 0, i 1, (eq_ix2 i)⟩
  pointwise [rowOf, slab, x1]
/-- The kernel's load of batch row 1 at time 2 is the reference's slice. -/
theorem row12 : rowOf (View.ld X r0_11) = slab 1 (x2 (F := Ideal) X) := by
  funext i
  obtain ⟨n, k, rfl⟩ : ∃ a b, i = ix2 a b := ⟨i 0, i 1, (eq_ix2 i)⟩
  pointwise [rowOf, slab, x2]
/-- The kernel's load of batch row 1 at time 3 is the reference's slice. -/
theorem row13 : rowOf (View.ld X r0_12) = slab 1 (x3 (F := Ideal) X) := by
  funext i
  obtain ⟨n, k, rfl⟩ : ∃ a b, i = ix2 a b := ⟨i 0, i 1, (eq_ix2 i)⟩
  pointwise [rowOf, slab, x3]

end Inputs

/-! ## The result -/

variable (A : FVec Ideal S2048x2048 .f32) (Wr : FVec Ideal S512x256 .f32) (Wc : FVec Ideal S512x128 .f32) (br : FVec Ideal S256 .f32) (bc : FVec Ideal S128 .f32)

/-- Four steps from the state zero, a batch row of them. -/
theorem states_eq (b : Fin 2) (y0 y1 y2 y3 : FVec Ideal ReferenceIdeal.S2x2048x128 .f32) :
    slab b (cell (F := Ideal) y3 (cell y2 (cell y1 (cell y0 h0 A Wr br Wc bc) A Wr br Wc bc) A Wr br Wc bc) A Wr br Wc bc)
    = states A (shapeCast S1x256 br shapeCasts_S256_S1x256) (shapeCast S1x128 bc shapeCasts_S128_S1x128) Wr Wc (slab b y0) (slab b y1) (slab b y2) (slab b y3) := by
  rw [cell_eq, cell_eq, cell_eq, cell_zero]
  rfl

/-- The states are real numbers. -/
theorem states_real (br : FVec Ideal S1x256 .f32) (bc : FVec Ideal S1x128 .f32) (y0 y1 y2 y3 : FVec Ideal S2048x128 .f32) (n : Fin 2048) (k : Fin 128) :
    IsNum (states A br bc Wr Wc y0 y1 y2 y3 (ix2 n k)) :=
  step_real A Wr Wc br bc _ _ n k fun n k => step_real A Wr Wc br bc _ _ n k fun n k => step_real A Wr Wc br bc _ _ n k fun n k =>
    first_real A Wr Wc br bc _ n k

/-- The kernel's result of its arguments is the reference's. -/
theorem value_eq (X : Vec Ideal S2x4x2048x128 .f32) (w : FVec Ideal S128x1 .f32) (b : FVec Ideal S1 .f32) :
    KVal.result (View.ld X r0_5) (View.ld X r0_6) (View.ld X r0_7) (View.ld X r0_8) (View.ld X r0_9) (View.ld X r0_10) (View.ld X r0_11) (View.ld X r0_12)
      A Wr (shapeCast S1x256 br shapeCasts_S256_S1x256) Wc (shapeCast S1x128 bc shapeCasts_S128_S1x128)
      (transpose S1x128 [1, 0] w transposes_S128x1_S1x128_1_0) (shapeCast S1x1 b shapeCasts_S1_S1x1)
    = value (F := Ideal) X A Wr br Wc bc w b ((stepRu (F := Ideal) Wr)^[8192] (oneRu (F := Ideal))) ((stepC (F := Ideal) Wc)^[8192] (oneC (F := Ideal))) := by
  unfold KVal.result value
  rw [row00, row01, row02, row03, row10, row11, row12, row13, normRu_same, normC_same, ← states_eq, ← states_eq]
  refine out_eq _ (fun x n d => ?_) w b
  have e := congrFun (states_eq A (normRu (F := Ideal) Wr ((stepRu (F := Ideal) Wr)^[8192] (oneRu (F := Ideal))))
    (normC (F := Ideal) Wc ((stepC (F := Ideal) Wc)^[8192] (oneC (F := Ideal)))) br bc x (x0 (F := Ideal) X) (x1 (F := Ideal) X) (x2 (F := Ideal) X)
    (x3 (F := Ideal) X)) (ix2 n d)
  rw [slab_apply] at e
  rw [e]
  exact states_real _ _ _ _ _ _ _ _ _ n d

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference runs and leaves its arguments as they were; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.RefRun.run (F := Ideal) m ρ)

/-- From the same arguments the kernel and the reference leave the same result, and both leave their arguments as they were. -/
theorem algebraic : Cert.algebraic_KernelIdeal_ReferenceIdeal := by
  intro m ρ m' ρ' _ hagree
  refine ⟨fun c => Cert.KVal.kernelValue (F := Ideal) m c, ?_, ?_⟩
  · exact (θ_run Cert.KernelIdeal.defs _ _).mono
      (fun r h c => ⟨(h c).1.trans (Cert.KVal.arr_eq (F := Ideal) m c), (h c).2⟩) (Cert.KernelIdeal.Value.run_blocks (F := Ideal) m ρ)
  · refine (θ_run Cert.ReferenceIdeal.defs _ _).mono (fun r h c => ⟨(h c).1.trans ?_, (h c).2⟩) (Cert.RefRun.run (F := Ideal) m' ρ')
    obtain ⟨h0, _, h2, _, h4, h5, h6, h7, h8, h9⟩ := hagree c
    unfold Cert.RefRun.result
    rw [h0, h2, h4, h5, h6, h7, h8, h9]
    exact (Cert.Same.value_eq _ _ _ _ _ _ _ _).symm

/-- The whole claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, algebraic⟩

end Cert.Proof

end
